-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_ks_at_most_64 [hPre_top_ks_at_most_64 : Cert.Pre_top_ks_at_most_64.Facts] (m : (ℓ : Loc Cert.KernelIdeal.nD Cert.KernelIdeal.τ Cert.KernelIdeal.sig) → Buf (Elt Ideal) ℓ) : Prop :=
  ∀ c : Dev Cert.KernelIdeal.nD,
    (Cert.Pre_top_ks_at_most_64.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_ks_at_most_64 [hPre_top_ks_at_most_64 : Cert.Pre_top_ks_at_most_64.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_ks_at_most_64.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_top_ks_at_most_64 [hKernelIdeal : Cert.KernelIdeal.Facts] [hPre_top_ks_at_most_64 : Cert.Pre_top_ks_at_most_64.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_ks_at_most_64 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_top_ks_at_most_64 [hReferenceIdeal : Cert.ReferenceIdeal.Facts] [hPre_top_ks_at_most_64 : Cert.Pre_top_ks_at_most_64.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_ks_at_most_64 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_top_ks_at_most_64 [hKernelIdeal : Cert.KernelIdeal.Facts] [hReferenceIdeal : Cert.ReferenceIdeal.Facts] [hPre_top_ks_at_most_64 : Cert.Pre_top_ks_at_most_64.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_ks_at_most_64 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v231) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_top_ks_at_most_64 : Cert.Pre_top_ks_at_most_64.Facts),
    quiescent_Kernel (hKernel := hKernel)
    ∧ quiescent_KernelIdeal (hKernelIdeal := hKernelIdeal)
    ∧ quiescent_KernelIdeal_pre_top_ks_at_most_64 (hKernelIdeal := hKernelIdeal) (hPre_top_ks_at_most_64 := hPre_top_ks_at_most_64)
    ∧ quiescent_ReferenceIdeal (hReferenceIdeal := hReferenceIdeal)
    ∧ quiescent_ReferenceIdeal_pre_top_ks_at_most_64 (hReferenceIdeal := hReferenceIdeal) (hPre_top_ks_at_most_64 := hPre_top_ks_at_most_64)
    ∧ preserves_Kernel_KernelIdeal
    ∧ algebraic_KernelIdeal_ReferenceIdeal_pre_top_ks_at_most_64 (hKernelIdeal := hKernelIdeal) (hReferenceIdeal := hReferenceIdeal) (hPre_top_ks_at_most_64 := hPre_top_ks_at_most_64)
-- ==== Pre_top_ks_at_most_64.lean ====
abbrev S128x100000 : Shape := ⟨2, ![128, 100000]⟩
abbrev S128x1 : Shape := ⟨2, ![128, 1]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S128x100000 .f32) (main_arg1 : FVec F S128x1 .f32) (main_arg2 : IVec S128 32) (main_arg3 : FVec F S128 .f32) (main_arg4 : FVec F S128 .f32) (main_arg5 : IVec S_ 1) : IVec S128 1 :=
  let main_c : IVec S_ 32 := constantI S_ 32 64#32
  let main_v0 : IVec S128 32 := broadcastInDim S128 ![] bcast_S_S128 main_c
  let main_v1 : IVec S128 1 := cmpi .sle main_arg2 main_v0
  main_v1
-- ==== Kernel.lean ====
abbrev S128x100000 : Shape := ⟨2, ![128, 100000]⟩
abbrev S128x1 : Shape := ⟨2, ![128, 1]⟩
abbrev S128 : Shape := ⟨1, ![128]⟩
abbrev S_ : Shape := ⟨0, ![]⟩
abbrev S128x64 : Shape := ⟨2, ![128, 64]⟩
abbrev S128x12500x8 : Shape := ⟨3, ![128, 12500, 8]⟩
abbrev S128x8x12500 : Shape := ⟨3, ![128, 8, 12500]⟩
abbrev S8x100000 : Shape := ⟨2, ![8, 100000]⟩
abbrev S8x8x12500 : Shape := ⟨3, ![8, 8, 12500]⟩
abbrev S8x1 : Shape := ⟨2, ![8, 1]⟩
abbrev S8x64 : Shape := ⟨2, ![8, 64]⟩
abbrev S8 : Shape := ⟨1, ![8]⟩
abbrev S8x12500 : Shape := ⟨2, ![8, 12500]⟩
abbrev S8x1x12500 : Shape := ⟨3, ![8, 1, 12500]⟩
abbrev S1x8x12500 : Shape := ⟨3, ![1, 8, 12500]⟩
abbrev S8x63 : Shape := ⟨2, ![8, 63]⟩
abbrev S8x2 : Shape := ⟨2, ![8, 2]⟩
abbrev S8x62 : Shape := ⟨2, ![8, 62]⟩
abbrev S8x4 : Shape := ⟨2, ![8, 4]⟩
abbrev S8x60 : Shape := ⟨2, ![8, 60]⟩
abbrev S8x8 : Shape := ⟨2, ![8, 8]⟩
abbrev S8x56 : Shape := ⟨2, ![8, 56]⟩
abbrev S8x16 : Shape := ⟨2, ![8, 16]⟩
abbrev S8x48 : Shape := ⟨2, ![8, 48]⟩
abbrev S8x32 : Shape := ⟨2, ![8, 32]⟩

abbrev nBuf : Space → Nat
  | .hbm => 37
  | .vmem => 20
  | .smem => 0
  | _ => 0

abbrev bufTy : (tb : Table) → Fin (tcTables nBuf tb) → BufTy
  | .hbm, ⟨0, _⟩ => ⟨S128x100000, .f32⟩
  | .hbm, ⟨1, _⟩ => ⟨S128x1, .f32⟩
  | .hbm, ⟨2, _⟩ => ⟨S128, .i32⟩
  | .hbm, ⟨3, _⟩ => ⟨S128, .f32⟩
  | .hbm, ⟨4, _⟩ => ⟨S128, .f32⟩
  | .hbm, ⟨5, _⟩ => ⟨S_, .i1⟩
  | .hbm, ⟨6, _⟩ => ⟨S128x64, .i32⟩
  | .hbm, ⟨7, _⟩ => ⟨S128x12500x8, .f32⟩
  | .hbm, ⟨8, _⟩ => ⟨S128x8x12500, .f32⟩
  | .hbm, ⟨9, _⟩ => ⟨S128x64, .f32⟩
  | .hbm, ⟨10, _⟩ => ⟨S_, .f32⟩
  | .hbm, ⟨11, _⟩ => ⟨S128x64, .f32⟩
  | .hbm, ⟨12, _⟩ => ⟨S128x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128x64, .f32⟩
  | .hbm, ⟨17, _⟩ => ⟨S128x64, .f32⟩
  | .hbm, ⟨18, _⟩ => ⟨S_, .f32⟩
  | .hbm, ⟨19, _⟩ => ⟨S128x64, .f32⟩
  | .hbm, ⟨20, _⟩ => ⟨S128x64, .f32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S128x1, .i32⟩
  | .hbm, ⟨29, _⟩ => ⟨S128x1, .f32⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128x1, .f32⟩
  | .hbm, ⟨35, _⟩ => ⟨S128x100000, .f32⟩
  | .hbm, ⟨36, _⟩ => ⟨S128x1, .i32⟩
  | .local _ .vmem, ⟨0, _⟩ => ⟨S8x100000, .f32⟩
  | .local _ .vmem, ⟨1, _⟩ => ⟨S8x100000, .f32⟩
  | .local _ .vmem, ⟨2, _⟩ => ⟨S8x8x12500, .f32⟩
  | .local _ .vmem, ⟨3, _⟩ => ⟨S8x8x12500, .f32⟩
  | .local _ .vmem, ⟨4, _⟩ => ⟨S8x1, .f32⟩
  | .local _ .vmem, ⟨5, _⟩ => ⟨S8x1, .f32⟩
  | .local _ .vmem, ⟨6, _⟩ => ⟨S8x64, .f32⟩
  | .local _ .vmem, ⟨7, _⟩ => ⟨S8x64, .f32⟩
  | .local _ .vmem, ⟨8, _⟩ => ⟨S8x1, .i32⟩
  | .local _ .vmem, ⟨9, _⟩ => ⟨S8x1, .i32⟩
  | .local _ .vmem, ⟨10, _⟩ => ⟨S8x1, .f32⟩
  | .local _ .vmem, ⟨11, _⟩ => ⟨S8x1, .f32⟩
  | .local _ .vmem, ⟨12, _⟩ => ⟨S8x1, .f32⟩
  | .local _ .vmem, ⟨13, _⟩ => ⟨S8x1, .f32⟩
  | .local _ .vmem, ⟨14, _⟩ => ⟨S8x100000, .f32⟩
  | .local _ .vmem, ⟨15, _⟩ => ⟨S8x100000, .f32⟩
  | .local _ .vmem, ⟨16, _⟩ => ⟨S8x1, .i32⟩
  | .local _ .vmem, ⟨17, _⟩ => ⟨S8x1, .i32⟩
  | .local _ .vmem, ⟨18, _⟩ => ⟨S8x8x12500, .f32⟩
  | .local _ .vmem, ⟨19, _⟩ => ⟨S8x8x12500, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_cst_1 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_2 : Ref sig .tc := ⟨.hbm, 18, rfl⟩
abbrev main_call0_v8 : Ref sig .tc := ⟨.hbm, 19, rfl⟩
abbrev main_call0_v9 : Ref sig .tc := ⟨.hbm, 20, rfl⟩
abbrev main_call0_cst_3 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_v18 : Ref sig .tc := ⟨.hbm, 33, rfl⟩
abbrev main_call0_v19 : Ref sig .tc := ⟨.hbm, 34, rfl⟩
abbrev main_v0_1 : Ref sig .tc := ⟨.hbm, 35, rfl⟩
abbrev main_v0_0 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_537 : BitVec 32 := 0#32
  let c64_i32 : BitVec 32 := 64#32
  let v724 : BitVec 32 := Scalar.addi c0_i32_537 c64_i32
  let c1_i32_538 : BitVec 32 := 1#32
  ⟨c0_i32_537, v724, c1_i32_538⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x12500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x100000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S128x100000 : Shape := ⟨2, ![128, 100000]⟩
abbrev S128x1 : Shape := ⟨2, ![128, 1]⟩
abbrev S128 : Shape := ⟨1, ![128]⟩
abbrev S_ : Shape := ⟨0, ![]⟩
abbrev S100000 : Shape := ⟨1, ![100000]⟩
abbrev S1x100000 : Shape := ⟨2, ![1, 100000]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 340
  | .vmem => 0
  | .smem => 0
  | _ => 0

abbrev hbmTy0_0 (i : Nat) : BufTy := match i % 128 with
  | 0 => ⟨S128x100000, .f32⟩
  | 1 => ⟨S128x1, .f32⟩
  | 2 => ⟨S128, .i32⟩
  | 3 => ⟨S128, .f32⟩
  | 4 => ⟨S128, .f32⟩
  | 5 => ⟨S_, .i1⟩
  | 6 => ⟨S128x100000, .f32⟩
  | 7 => ⟨S128x100000, .f32⟩
  | 8 => ⟨S_, .f32⟩
  | 9 => ⟨S128, .f32⟩
  | 10 => ⟨S_, .f32⟩
  | 11 => ⟨S128, .f32⟩
  | 12 => ⟨S128, .f32⟩
  | 13 => ⟨S128x1, .f32⟩
  | 14 => ⟨S128x100000, .f32⟩
  | 15 => ⟨S128x100000, .f32⟩
  | 16 => ⟨S128x100000, .f32⟩
  | 17 => ⟨S_, .f32⟩
  | 18 => ⟨S128, .f32⟩
  | 19 => ⟨S128x1, .f32⟩
  | 20 => ⟨S128x100000, .f32⟩
  | 21 => ⟨S128x100000, .f32⟩
  | 22 => ⟨S128x100000, .f32⟩
  | 23 => ⟨S128x100000, .f32⟩
  | 24 => ⟨S128x100000, .i32⟩
  | 25 => ⟨S128x100000, .f32⟩
  | 26 => ⟨S128x100000, .i32⟩
  | 27 => ⟨S128x100000, .i32⟩
  | 28 => ⟨S_, .f32⟩
  | 29 => ⟨S_, .f32⟩
  | 30 => ⟨S128x100000, .f32⟩
  | 31 => ⟨S100000, .i32⟩
  | 32 => ⟨S1x100000, .i32⟩
  | 33 => ⟨S128x1, .i32⟩
  | 34 => ⟨S128x100000, .i32⟩
  | 35 => ⟨S128x100000, .i32⟩
  | 36 => ⟨S128x100000, .i1⟩
  | 37 => ⟨S_, .f32⟩
  | 38 => ⟨S_, .f32⟩
  | 39 => ⟨S128x100000, .f32⟩
  | 40 => ⟨S128x100000, .f32⟩
  | 41 => ⟨S128x100000, .f32⟩
  | 42 => ⟨S128x1, .f32⟩
  | 43 => ⟨S128x100000, .f32⟩
  | 44 => ⟨S128x100000, .i1⟩
  | 45 => ⟨S_, .f32⟩
  | 46 => ⟨S_, .f32⟩
  | 47 => ⟨S128x100000, .f32⟩
  | 48 => ⟨S128x100000, .f32⟩
  | 49 => ⟨S128x1, .f32⟩
  | 50 => ⟨S128, .f32⟩
  | 51 => ⟨S128, .f32⟩
  | 52 => ⟨S128x1, .f32⟩
  | 53 => ⟨S128x100000, .f32⟩
  | 54 => ⟨S128x100000, .i1⟩
  | 55 => ⟨S_, .f32⟩
  | 56 => ⟨S_, .f32⟩
  | 57 => ⟨S128x100000, .f32⟩
  | 58 => ⟨S128x100000, .f32⟩
  | 59 => ⟨S128x100000, .f32⟩
  | 60 => ⟨S128x100000, .i32⟩
  | 61 => ⟨S_, .i32⟩
  | 62 => ⟨S128x100000, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S128x100000, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S128x100000, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S_, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S128x100000, .f32⟩
  | 36 => ⟨S_, .f32⟩
  | 37 => ⟨S128x100000, .f32⟩
  | 38 => ⟨S128x100000, .f32⟩
  | 39 => ⟨S_, .f32⟩
  | 40 => ⟨S_, .f32⟩
  | 41 => ⟨S_, .f32⟩
  | 42 => ⟨S128x100000, .f32⟩
  | 43 => ⟨S128x100000, .f32⟩
  | 44 => ⟨S_, .f32⟩
  | 45 => ⟨S128x100000, .f32⟩
  | 46 => ⟨S128x100000, .f32⟩
  | 47 => ⟨S_, .f32⟩
  | 48 => ⟨S128x100000, .f32⟩
  | 49 => ⟨S128x100000, .f32⟩
  | 50 => ⟨S128x100000, .f32⟩
  | 51 => ⟨S128x100000, .f32⟩
  | 52 => ⟨S128x100000, .f32⟩
  | 53 => ⟨S128x100000, .f32⟩
  | 54 => ⟨S128x100000, .f32⟩
  | 55 => ⟨S128x100000, .f32⟩
  | 56 => ⟨S128x1, .f32⟩
  | 57 => ⟨S128x1, .i32⟩
  | 58 => ⟨S_, .i32⟩
  | 59 => ⟨S128x1, .i32⟩
  | 60 => ⟨S128x1, .i1⟩
  | 61 => ⟨S_, .i32⟩
  | 62 => ⟨S128x1, .i32⟩
  | 63 => ⟨S128x1, .i32⟩
  | 64 => ⟨S128x1, .i32⟩
  | 65 => ⟨S128x1x1, .i32⟩
  | 66 => ⟨S1, .i32⟩
  | 67 => ⟨S_, .i32⟩
  | 68 => ⟨S128x1x1, .i32⟩
  | 69 => ⟨S128x1x1, .i1⟩
  | 70 => ⟨S1x1x1, .i32⟩
  | 71 => ⟨S128x1x1, .i32⟩
  | 72 => ⟨S128x1x1, .i1⟩
  | 73 => ⟨S128x1x1, .i1⟩
  | 74 => ⟨S_, .i1⟩
  | 75 => ⟨S128x1, .i1⟩
  | 76 => ⟨S128x1, .i32⟩
  | 77 => ⟨S_, .i32⟩
  | 78 => ⟨S128x1, .i32⟩
  | 79 => ⟨S128x1, .i32⟩
  | 80 => ⟨S128x100000, .f32⟩
  | 81 => ⟨S_, .f32⟩
  | 82 => ⟨S128x100000, .f32⟩
  | 83 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_call1_v1_0 : Ref sig .tc := ⟨.hbm, 25, rfl⟩
abbrev main_v15 : Ref sig .tc := ⟨.hbm, 26, rfl⟩
abbrev main_v16 : Ref sig .tc := ⟨.hbm, 27, rfl⟩
abbrev main_call2_call0_cst : Ref sig .tc := ⟨.hbm, 28, rfl⟩
abbrev main_call2_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_call3_v0 : Ref sig .tc := ⟨.hbm, 38, rfl⟩
abbrev main_call3_v1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_call4_v0 : Ref sig .tc := ⟨.hbm, 46, rfl⟩
abbrev main_call4_v1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_call5_v0 : Ref sig .tc := ⟨.hbm, 56, rfl⟩
abbrev main_call5_v1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_5 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_16 : Ref sig .tc := ⟨.hbm, 110, rfl⟩
abbrev main_v76 : Ref sig .tc := ⟨.hbm, 111, rfl⟩
abbrev main_v77 : Ref sig .tc := ⟨.hbm, 112, rfl⟩
abbrev main_c_17 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_c_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_20 : Ref sig .tc := ⟨.hbm, 126, rfl⟩
abbrev main_v88 : Ref sig .tc := ⟨.hbm, 127, rfl⟩
abbrev main_v89 : Ref sig .tc := ⟨.hbm, 128, rfl⟩
abbrev main_c_21 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_22 : Ref sig .tc := ⟨.hbm, 135, rfl⟩
abbrev main_v95 : Ref sig .tc := ⟨.hbm, 136, rfl⟩
abbrev main_v96 : Ref sig .tc := ⟨.hbm, 137, rfl⟩
abbrev main_c_23 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_24 : Ref sig .tc := ⟨.hbm, 144, rfl⟩
abbrev main_v102 : Ref sig .tc := ⟨.hbm, 145, rfl⟩
abbrev main_v103 : Ref sig .tc := ⟨.hbm, 146, rfl⟩
abbrev main_c_25 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_26 : Ref sig .tc := ⟨.hbm, 152, rfl⟩
abbrev main_v108 : Ref sig .tc := ⟨.hbm, 153, rfl⟩
abbrev main_v109 : Ref sig .tc := ⟨.hbm, 154, rfl⟩
abbrev main_c_27 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_28 : Ref sig .tc := ⟨.hbm, 159, rfl⟩
abbrev main_v113 : Ref sig .tc := ⟨.hbm, 160, rfl⟩
abbrev main_v114 : Ref sig .tc := ⟨.hbm, 161, rfl⟩
abbrev main_c_29 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_30 : Ref sig .tc := ⟨.hbm, 168, rfl⟩
abbrev main_v120 : Ref sig .tc := ⟨.hbm, 169, rfl⟩
abbrev main_v121 : Ref sig .tc := ⟨.hbm, 170, rfl⟩
abbrev main_c_31 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_32 : Ref sig .tc := ⟨.hbm, 177, rfl⟩
abbrev main_v127 : Ref sig .tc := ⟨.hbm, 178, rfl⟩
abbrev main_v128 : Ref sig .tc := ⟨.hbm, 179, rfl⟩
abbrev main_c_33 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_c_34 : Ref sig .tc := ⟨.hbm, 186, rfl⟩
abbrev main_v134 : Ref sig .tc := ⟨.hbm, 187, rfl⟩
abbrev main_v135 : Ref sig .tc := ⟨.hbm, 188, rfl⟩
abbrev main_c_35 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_c_36 : Ref sig .tc := ⟨.hbm, 194, rfl⟩
abbrev main_v140 : Ref sig .tc := ⟨.hbm, 195, rfl⟩
abbrev main_v141 : Ref sig .tc := ⟨.hbm, 196, rfl⟩
abbrev main_c_37 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_c_38 : Ref sig .tc := ⟨.hbm, 201, rfl⟩
abbrev main_v145 : Ref sig .tc := ⟨.hbm, 202, rfl⟩
abbrev main_v146 : Ref sig .tc := ⟨.hbm, 203, rfl⟩
abbrev main_c_39 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_c_40 : Ref sig .tc := ⟨.hbm, 210, rfl⟩
abbrev main_v152 : Ref sig .tc := ⟨.hbm, 211, rfl⟩
abbrev main_v153 : Ref sig .tc := ⟨.hbm, 212, rfl⟩
abbrev main_c_41 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_c_42 : Ref sig .tc := ⟨.hbm, 219, rfl⟩
abbrev main_v159 : Ref sig .tc := ⟨.hbm, 220, rfl⟩
abbrev main_v160 : Ref sig .tc := ⟨.hbm, 221, rfl⟩
abbrev main_c_43 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_c_44 : Ref sig .tc := ⟨.hbm, 228, rfl⟩
abbrev main_v166 : Ref sig .tc := ⟨.hbm, 229, rfl⟩
abbrev main_v167 : Ref sig .tc := ⟨.hbm, 230, rfl⟩
abbrev main_c_45 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_c_46 : Ref sig .tc := ⟨.hbm, 236, rfl⟩
abbrev main_v172 : Ref sig .tc := ⟨.hbm, 237, rfl⟩
abbrev main_v173 : Ref sig .tc := ⟨.hbm, 238, rfl⟩
abbrev main_c_47 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_c_48 : Ref sig .tc := ⟨.hbm, 243, rfl⟩
abbrev main_v177 : Ref sig .tc := ⟨.hbm, 244, rfl⟩
abbrev main_v178 : Ref sig .tc := ⟨.hbm, 245, rfl⟩
abbrev main_c_49 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_c_50 : Ref sig .tc := ⟨.hbm, 252, rfl⟩
abbrev main_v184 : Ref sig .tc := ⟨.hbm, 253, rfl⟩
abbrev main_v185 : Ref sig .tc := ⟨.hbm, 254, rfl⟩
abbrev main_c_51 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_c_52 : Ref sig .tc := ⟨.hbm, 261, rfl⟩
abbrev main_v191 : Ref sig .tc := ⟨.hbm, 262, rfl⟩
abbrev main_v192 : Ref sig .tc := ⟨.hbm, 263, rfl⟩
abbrev main_c_53 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_c_54 : Ref sig .tc := ⟨.hbm, 270, rfl⟩
abbrev main_v198 : Ref sig .tc := ⟨.hbm, 271, rfl⟩
abbrev main_v199 : Ref sig .tc := ⟨.hbm, 272, rfl⟩
abbrev main_c_55 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_c_56 : Ref sig .tc := ⟨.hbm, 278, rfl⟩
abbrev main_v204 : Ref sig .tc := ⟨.hbm, 279, rfl⟩
abbrev main_v205 : Ref sig .tc := ⟨.hbm, 280, rfl⟩
abbrev main_c_57 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_c_58 : Ref sig .tc := ⟨.hbm, 285, rfl⟩
abbrev main_v209 : Ref sig .tc := ⟨.hbm, 286, rfl⟩
abbrev main_v210 : Ref sig .tc := ⟨.hbm, 287, rfl⟩
abbrev main_c_59 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_cst_60 : Ref sig .tc := ⟨.hbm, 292, rfl⟩
abbrev main_v214 : Ref sig .tc := ⟨.hbm, 293, rfl⟩
abbrev main_v215 : Ref sig .tc := ⟨.hbm, 294, rfl⟩
abbrev main_cst_61 : Ref sig .tc := ⟨.hbm, 295, rfl⟩
abbrev main_cst_62 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_cst_63 : Ref sig .tc := ⟨.hbm, 300, rfl⟩
abbrev main_v219 : Ref sig .tc := ⟨.hbm, 301, rfl⟩
abbrev main_v220 : Ref sig .tc := ⟨.hbm, 302, rfl⟩
abbrev main_cst_64 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_values : Ref sig .tc := ⟨.hbm, 312, rfl⟩
abbrev main_indices : Ref sig .tc := ⟨.hbm, 313, rfl⟩
abbrev main_call7_c : Ref sig .tc := ⟨.hbm, 314, rfl⟩
abbrev main_call7_v0 : Ref sig .tc := ⟨.hbm, 315, rfl⟩
abbrev main_call7_v1 : Ref sig .tc := ⟨.hbm, 316, rfl⟩
abbrev main_call7_c_0 : Ref sig .tc := ⟨.hbm, 317, rfl⟩
abbrev main_call7_v2 : Ref sig .tc := ⟨.hbm, 318, rfl⟩
abbrev main_call7_v3 : Ref sig .tc := ⟨.hbm, 319, rfl⟩
abbrev main_call7_v4 : Ref sig .tc := ⟨.hbm, 320, rfl⟩
abbrev main_call7_v5 : Ref sig .tc := ⟨.hbm, 321, rfl⟩
abbrev main_call7_c_1 : Ref sig .tc := ⟨.hbm, 322, rfl⟩
abbrev main_call7_c_2 : Ref sig .tc := ⟨.hbm, 323, rfl⟩
abbrev main_call7_v6 : Ref sig .tc := ⟨.hbm, 324, rfl⟩
abbrev main_call7_v7 : Ref sig .tc := ⟨.hbm, 325, rfl⟩
abbrev main_call7_v8 : Ref sig .tc := ⟨.hbm, 326, rfl⟩
abbrev main_call7_v9 : Ref sig .tc := ⟨.hbm, 327, rfl⟩
abbrev main_call7_v10 : Ref sig .tc := ⟨.hbm, 328, rfl⟩
abbrev main_call7_v11 : Ref sig .tc := ⟨.hbm, 329, rfl⟩
abbrev main_call7_c_3 : Ref sig .tc := ⟨.hbm, 330, rfl⟩
abbrev main_call7_v12 : Ref sig .tc := ⟨.hbm, 331, rfl⟩
abbrev main_call7_v13 : Ref sig .tc := ⟨.hbm, 332, rfl⟩
abbrev main_call7_c_4 : Ref sig .tc := ⟨.hbm, 333, rfl⟩
abbrev main_call7_v14 : Ref sig .tc := ⟨.hbm, 334, rfl⟩
abbrev main_v229 : Ref sig .tc := ⟨.hbm, 335, rfl⟩
abbrev main_v230 : Ref sig .tc := ⟨.hbm, 336, rfl⟩
abbrev main_cst_65 : Ref sig .tc := ⟨.hbm, 337, rfl⟩
abbrev main_call8_v0 : Ref sig .tc := ⟨.hbm, 338, rfl⟩
abbrev main_v231 : Ref sig .tc := ⟨.hbm, 339, rfl⟩

abbrev nD : Nat := 1
abbrev τ : Topo := Topo.v7x

variable {F : FTy → Type} [FloatOps F]
-- ==== Proof.K.Order.lean ====
/- The order that both programs select by: a greater probability first, among equal probabilities the later position
   first. What a stable ascending sort, read backwards, has at each place; and the network of 19 exchanges that puts eight
   entries into that order. -/
module

public import Idealize.ShloMosaic.Lib.SortPrefix
public import Idealize.ShloMosaic.Lib.SortNet.Basic
public import Mathlib.Data.Prod.Lex
public import Mathlib.Data.EReal.Basic

@[expose] public section

noncomputable section

namespace Cert.Sampler

open Idealize.ShloMosaic Idealize.ShloMosaic.SortNet

/-! ## A stable sort compares each element with later ones only -/

/-- Two relations that agree wherever the first element comes later in the list sort the list alike. -/
theorem stableSort_congr_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

variable {n : ℕ} (p : Fin n → EReal)

/-- `a` is selected before `b`: the greater value, or the same value at the later position. -/
def before (a b : Fin n) : Bool := decide (p b < p a) || (decide (p a = p b) && decide (b < a))

/-- The ascending order with ties by position. -/
def ascending (a b : Fin n) : Bool := decide (p a < p b) || (decide (p a = p b) && decide (a < b))

/-- The ascending order with ties by position is total. -/
theorem ascending_total : StrictTotalBefore (ascending p) :=
  StrictTotalBefore.of_key_then_position (fun a b : EReal => decide (a < b)) p (fun a => by simp)
    (fun a b c h h' => by simp only [decide_eq_true_eq] at *; exact h.trans h')
    (fun a b => by simp only [decide_eq_true_eq]; exact lt_trichotomy a b)

/-- The selection order is the ascending order turned round. -/
theorem before_eq_ascending (a b : Fin n) : before p a b = ascending p b a := by
  unfold before ascending
  congr 2
  exact decide_eq_decide.mpr ⟨Eq.symm, Eq.symm⟩

/-- The selection order is total. -/
theorem before_total : StrictTotalBefore (before p) where
  irrefl a := by rw [before_eq_ascending]; exact (ascending_total p).irrefl a
  trans a b c h h' := by rw [before_eq_ascending] at *; exact (ascending_total p).trans c b a h' h
  total a b hab := by rw [before_eq_ascending, before_eq_ascending]; exact (ascending_total p).total b a hab.symm

/-- A stable ascending sort by value alone has, counted from the end, the selection order's `k`-th element. -/
theorem sortedFrom_rev (R : Fin n → Fin n → Bool) (hR : ∀ a b, R a b = decide (p a < p b)) (k : Fin n) :
    sortedFrom R k.rev = sortedFrom (before p) k := by
  have e : sortPositions n R = sortPositions n (ascending p) := by
    refine stableSort_congr_later _ _ _ ((List.pairwise_lt_finRange n).imp fun {a b} hab => ?_)
    rw [hR]; unfold ascending
    rw [decide_eq_false (show ¬ b < a from not_lt.mpr hab.le), Bool.and_false, Bool.or_false]
  have e' : (sortPositions n (ascending p)).reverse = sortPositions n (before p) := by
    refine (before_total p).eq_stableSort_of_sorted ((List.reverse_perm _).trans (perm_sortPositions n _)) ?_
    rw [List.pairwise_reverse]
    exact ((ascending_total p).sorted_stableSort _).imp fun {a b} h => by rw [before_eq_ascending]; exact h
  unfold sortedFrom
  simp only [List.get_eq_getElem, Fin.val_cast]
  have hl : (sortPositions n (ascending p)).length = n := length_sortPositions n _
  calc (sortPositions n R)[k.rev.val]'(by rw [length_sortPositions]; exact k.rev.isLt)
      = (sortPositions n (ascending p))[k.rev.val]'(by rw [hl]; exact k.rev.isLt) := by simp only [e]
    _ = (sortPositions n (ascending p)).reverse[k.val]'(by rw [List.length_reverse, hl]; exact k.isLt) := by
        rw [List.getElem_reverse]
        congr 1
        rw [hl, Fin.val_rev]; omega
    _ = _ := by simp only [e']

/-- The first element of a stable sort by "greater" is the first of the greatest. -/
theorem sortedFrom_greatest {m : ℕ} (y : Fin m → EReal) (R : Fin m → Fin m → Bool) (hR : ∀ a b, R a b = decide (y b < y a))
    (z : Fin m) (hz : z.val = 0) (f : Fin m) (hmax : ∀ a, y a ≤ y f) (hfirst : ∀ a, y a = y f → f ≤ a) : sortedFrom R z = f := by
  let B : Fin m → Fin m → Bool := fun a b => decide (y b < y a) || (decide (y a = y b) && decide (a < b))
  have hB : StrictTotalBefore B :=
    StrictTotalBefore.of_key_then_position (fun a b : EReal => decide (b < a)) y (fun a => by simp)
      (fun a b c h h' => by simp only [decide_eq_true_eq] at *; exact h'.trans h)
      (fun a b => by simp only [decide_eq_true_eq]; rcases lt_trichotomy a b with h | h | h <;> simp [h])
  have e : sortPositions m R = sortPositions m B := by
    refine stableSort_congr_later _ _ _ ((List.pairwise_lt_finRange m).imp fun {a b} hab => ?_)
    rw [hR]
    show _ = (_ || _)
    rw [decide_eq_false (show ¬ b < a from not_lt.mpr hab.le), Bool.and_false, Bool.or_false]
  have e1 : sortedFrom R z = sortedFrom B z := by
    unfold sortedFrom
    simp only [List.get_eq_getElem, Fin.val_cast, e]
  have hm : 1 ≤ m := by have := z.isLt; omega
  have h := hB.sortedFrom_eq_of_prefix hm (fun _ : Fin 1 => f) (fun a b _ => Subsingleton.elim a b)
    (fun i j hij => absurd hij (by rw [Subsingleton.elim i j]; exact lt_irrefl _))
    (fun _ a ha => by
      have hne : f ≠ a := ha 0
      show (decide (y f < y a) || (decide (y a = y f) && decide (a < f))) = false
      rw [decide_eq_false (not_lt.mpr (hmax a)), Bool.false_or, Bool.and_eq_false_iff]
      by_cases hya : y a = y f
      · right; exact decide_eq_false (not_lt.mpr (hfirst a hya))
      · left; exact decide_eq_false hya) 0
  rw [e1, ← h]
  congr 1
  exact Fin.ext hz

/-! ## The network -/

/-- An entry: the probability, then the position, compared in that order. -/
abbrev Entry := EReal ×ₗ ℤ

/-- The entry of a probability and its position's word. -/
def entry (x : EReal) (w : BitVec 32) : Entry := toLex (x, w.toInt)

/-- Equal entries have equal values and equal words. -/
theorem entry_inj {x x' : EReal} {w w' : BitVec 32} (h : entry x w = entry x' w') : x = x' ∧ w = w' :=
  ⟨congrArg (fun e : Entry => (ofLex e).1) h, BitVec.eq_of_toInt_eq (congrArg (fun e : Entry => (ofLex e).2) h)⟩

/-- Entries compare by value, then by position. -/
theorem entry_lt {x x' : EReal} {w w' : BitVec 32} :
    entry x w < entry x' w' ↔ x < x' ∨ x = x' ∧ w.toInt < w'.toInt := Prod.Lex.toLex_lt_toLex

/-- The exchange that leaves the greater entry at `a`, the lesser at `b`. -/
def swap (a b : Fin 8) (h : b ≠ a) : Cmpx 8 := ⟨b, a, h⟩

/-- The 19 exchanges, in order. -/
def net : Network 8 :=
  [swap 0 1 (by decide), swap 2 3 (by decide), swap 4 5 (by decide), swap 6 7 (by decide),
   swap 0 2 (by decide), swap 1 3 (by decide), swap 4 6 (by decide), swap 5 7 (by decide),
   swap 1 2 (by decide), swap 5 6 (by decide), swap 0 4 (by decide), swap 1 5 (by decide),
   swap 2 6 (by decide), swap 3 7 (by decide), swap 2 4 (by decide), swap 3 5 (by decide),
   swap 1 2 (by decide), swap 3 4 (by decide), swap 5 6 (by decide)]

/-- The network sorts: the entries stand in descending order after it (checked on the vectors of zeros and ones). -/
theorem net_antitone (v : Fin 8 → Entry) : Antitone (Network.apply net v) := by
  refine Network.zero_one_on_antitone net (fun _ => True) (fun b _ => ?_) v fun _ => trivial
  have h : ∀ b0 b1 b2 b3 b4 b5 b6 b7 : Bool, ∀ i j : Fin 8, i ≤ j →
      Network.apply net ![b0, b1, b2, b3, b4, b5, b6, b7] j ≤ Network.apply net ![b0, b1, b2, b3, b4, b5, b6, b7] i := by
    decide +kernel
  intro i j hij
  have e : b = ![b 0, b 1, b 2, b 3, b 4, b 5, b 6, b 7] := by
    funext k; fin_cases k <;> rfl
  rw [e]
  exact h _ _ _ _ _ _ _ _ i j hij

end Cert.Sampler

end
-- ==== Proof.K.Slab.lean ====
/- What a buffer of eight slabs holds at an entry after stores of whole slabs; one exchange of the network on the slabs. -/
module

public import proofs.«01_k».proof.Proof.K.Order
public import proofs.«01_k».proof.Proof.Gen.KernelIdeal.Frame
public import Idealize.ShloMosaic.Lib.Pointwise
public import Idealize.ShloMosaic.Lib.Tactic.RunNames

@[expose] public section

set_option maxRecDepth 16384

noncomputable section

namespace Cert.Sampler

open Idealize.ShloMosaic Idealize.ShloMosaic.SortNet Cert.KernelIdeal Cert.KernelIdeal.Gen

/-- The buffer's entry after one more store of slab `k`. -/
theorem canon_slab {e : EltTy} (k : ℕ) (hk : ∀ a : Fin S8x8x12500.rank, (![k, 0, 0] : Fin 3 → ℕ) a + (S1x8x12500.size : Fin 3 → ℕ) a ≤ S8x8x12500.size a)
    (w : (Rect.unit (s := S8x8x12500) ![k, 0, 0] S1x8x12500.size hk).shape.Idx → Elt Ideal e)
    (L : List (View.Piece (Elt Ideal) S8x8x12500 e)) (c r : Fin 8) (n : Fin 12500) :
    View.canon (⟨Rect.unit (s := S8x8x12500) ![k, 0, 0] S1x8x12500.size hk, w⟩ :: L) (ix3 c r n)
      = if c.val = k then w (ix3 0 r n) else View.canon L (ix3 c r n) := by
  split
  · next h =>
    have e : (ix3 c r n : S8x8x12500.Idx) = (Rect.unit (s := S8x8x12500) ![k, 0, 0] S1x8x12500.size hk).emb (ix3 (0 : Fin 1) r n) := by
      funext a
      apply Fin.ext
      fin_cases a
      · show c.val = k + 1 * 0; omega
      · show r.val = 0 + 1 * r.val; omega
      · show n.val = 0 + 1 * n.val; omega
    rw [e, View.canon_cons_emb]
  · next h =>
    refine View.canon_cons_of_not_mem _ _ fun hm => h ?_
    rw [Rect.mem_set_unit] at hm
    have := hm 0
    have h1 : k ≤ c.val := this.1
    have h2 : c.val < k + 1 := this.2
    omega

/-- A slab of values, and one of positions, as a matrix. -/
def flat (v : Vec Ideal S1x8x12500 .f32) : FVec Ideal S8x12500 .f32 := shapeCast S8x12500 v shapeCasts_S1x8x12500_S8x12500
/-- A slab of positions as a plane. -/
def flatI (v : Vec Ideal S1x8x12500 .i32) : IVec S8x12500 32 := shapeCast S8x12500 v shapeCasts_S1x8x12500_S8x12500

/-- Whether the first entry precedes the second, as the program computes it. -/
def goesFirst (va vb : FVec Ideal S8x12500 .f32) (wa wb : IVec S8x12500 32) : IVec S8x12500 1 :=
  ori (cmpf .ogt va vb) (andi (cmpf .oeq va vb) (cmpi .sgt wa wb))

/-- The slab of the entries that `g` takes from `x`, else from `y`: of values, of positions. -/
def pick (g : IVec S8x12500 1) (x y : FVec Ideal S8x12500 .f32) : FVec Ideal S1x8x12500 .f32 :=
  shapeCast S1x8x12500 (select g x y) shapeCasts_S8x12500_S1x8x12500
/-- A choice between two planes of positions, as a slab. -/
def pickI (g : IVec S8x12500 1) (x y : IVec S8x12500 32) : IVec S1x8x12500 32 :=
  shapeCast S1x8x12500 (select g x y) shapeCasts_S8x12500_S1x8x12500

/-- The program's comparison is that of the entries. -/
theorem goesFirst_at (va vb : FVec Ideal S8x12500 .f32) (wa wb : IVec S8x12500 32) (r : Fin 8) (n : Fin 12500) :
    (goesFirst va vb wa wb (ix2 r n) = 1#1) ↔ entry (vb (ix2 r n)) (wb (ix2 r n)) < entry (va (ix2 r n)) (wa (ix2 r n)) := by
  rw [entry_lt]
  pointwise [goesFirst]
  by_cases h : vb (ix2 r n) < va (ix2 r n) <;> by_cases h' : va (ix2 r n) = vb (ix2 r n) <;>
  by_cases h'' : (wb (ix2 r n)).toInt < (wa (ix2 r n)).toInt <;>
  simp [h, h', h'', IntOp.cmpi, IntOp.ori, IntOp.andi, BitVec.slt, eq_comm]

/-- A slab as a plane, at an entry. -/
theorem flat_at (v : Vec Ideal S1x8x12500 .f32) (r : Fin 8) (n : Fin 12500) : flat v (ix2 r n) = v (ix3 0 r n) := by
  pointwise [flat]

/-- A slab of positions as a plane, at an entry. -/
theorem flatI_at (v : Vec Ideal S1x8x12500 .i32) (r : Fin 8) (n : Fin 12500) : flatI v (ix2 r n) = v (ix3 0 r n) := by
  pointwise [flatI]

/-- A choice between two planes of values, at an entry. -/
theorem pick_at (g : IVec S8x12500 1) (x y : FVec Ideal S8x12500 .f32) (r : Fin 8) (n : Fin 12500) :
    pick g x y (ix3 0 r n) = if g (ix2 r n) = 1#1 then x (ix2 r n) else y (ix2 r n) := by
  pointwise [pick]
  rfl

/-- A choice between two planes of positions, at an entry. -/
theorem pickI_at (g : IVec S8x12500 1) (x y : IVec S8x12500 32) (r : Fin 8) (n : Fin 12500) :
    pickI g x y (ix3 0 r n) = if g (ix2 r n) = 1#1 then x (ix2 r n) else y (ix2 r n) := by
  pointwise [pickI]
  rfl

/-- What slab `k` is read as. -/
theorem read_slab {e : EltTy} (v : View sig Kind.tc Space.vmem S8x8x12500 e) (k : Fin 8)
    (hk : ∀ a : Fin S8x8x12500.rank, (![k.val, 0, 0] : Fin 3 → ℕ) a + (S1x8x12500.size : Fin 3 → ℕ) a ≤ S8x8x12500.size a)
    (L : List (View.Piece (Elt Ideal) S8x8x12500 e)) (r : Fin 8) (n : Fin 12500) :
    v.readCov L (Rect.unit (s := S8x8x12500) ![k.val, 0, 0] S1x8x12500.size hk).toLoadRect (ix3 (0 : Fin 1) r n)
      = View.canon L (ix3 k r n) := by
  rw [View.readCov_eq_canon']
  show View.canon L _ = View.canon L _
  congr 1
  funext a
  apply Fin.ext
  fin_cases a
  · show k.val + 1 * 0 = k.val; omega
  · show 0 + 1 * r.val = r.val; omega
  · show 0 + 1 * n.val = n.val; omega

/-- The fit of slab `k` in the buffer. -/
theorem slab_fits (k : Fin 8) (a : Fin S8x8x12500.rank) :
    (![k.val, 0, 0] : Fin 3 → ℕ) a + (S1x8x12500.size : Fin 3 → ℕ) a ≤ S8x8x12500.size a := by
  have := k.isLt
  fin_cases a
  · show k.val + 1 ≤ 8; omega
  · show 0 + 8 ≤ 8; omega
  · show 0 + 12500 ≤ 12500; omega

/-- Slab `k`. -/
abbrev slabRect (k : Fin 8) : Rect S8x8x12500 := Rect.unit (s := S8x8x12500) ![k.val, 0, 0] S1x8x12500.size (slab_fits k)

/-- Slab `k` of the values, of the positions, as a matrix. -/
def values (v : View sig Kind.tc Space.vmem S8x8x12500 .f32) (L : List (View.Piece (Elt Ideal) S8x8x12500 .f32)) (k : Fin 8) :
    FVec Ideal S8x12500 .f32 := flat (v.readCov L (slabRect k).toLoadRect)
/-- The positions that a slab holds after the writes of a list. -/
def places (v : View sig Kind.tc Space.vmem S8x8x12500 .i32) (L : List (View.Piece (Elt Ideal) S8x8x12500 .i32)) (k : Fin 8) :
    IVec S8x12500 32 := flatI (v.readCov L (slabRect k).toLoadRect)

/-- The entries of one column. -/
def column (L0 : List (View.Piece (Elt Ideal) S8x8x12500 .f32)) (L1 : List (View.Piece (Elt Ideal) S8x8x12500 .i32)) (r : Fin 8)
    (n : Fin 12500) (c : Fin 8) : Entry := entry (View.canon L0 (ix3 c r n)) (View.canon L1 (ix3 c r n))

/-- The four stores of one exchange make one exchange in every column. -/
theorem exchange (a b : Fin 8) (h : b ≠ a) (v0 : View sig Kind.tc Space.vmem S8x8x12500 .f32) (v1 : View sig Kind.tc Space.vmem S8x8x12500 .i32)
    {L0 L0' : List (View.Piece (Elt Ideal) S8x8x12500 .f32)} {L1 L1' : List (View.Piece (Elt Ideal) S8x8x12500 .i32)}
    (h0 : L0' = ⟨slabRect b, pick (goesFirst (values v0 L0 a) (values v0 L0 b) (places v1 L1 a) (places v1 L1 b)) (values v0 L0 b) (values v0 L0 a)⟩ ::
      ⟨slabRect a, pick (goesFirst (values v0 L0 a) (values v0 L0 b) (places v1 L1 a) (places v1 L1 b)) (values v0 L0 a) (values v0 L0 b)⟩ :: L0)
    (h1 : L1' = ⟨slabRect b, pickI (goesFirst (values v0 L0 a) (values v0 L0 b) (places v1 L1 a) (places v1 L1 b)) (places v1 L1 b) (places v1 L1 a)⟩ ::
      ⟨slabRect a, pickI (goesFirst (values v0 L0 a) (values v0 L0 b) (places v1 L1 a) (places v1 L1 b)) (places v1 L1 a) (places v1 L1 b)⟩ :: L1)
    (r : Fin 8) (n : Fin 12500) : column L0' L1' r n = (swap a b h).apply (column L0 L1 r n) := by
  have hg := goesFirst_at (values v0 L0 a) (values v0 L0 b) (places v1 L1 a) (places v1 L1 b) r n
  have fa : ∀ k, values v0 L0 k (ix2 r n) = View.canon L0 (ix3 k r n) := fun k => (flat_at _ r n).trans (read_slab v0 k _ L0 r n)
  have ga : ∀ k, places v1 L1 k (ix2 r n) = View.canon L1 (ix3 k r n) := fun k => (flatI_at _ r n).trans (read_slab v1 k _ L1 r n)
  funext c
  unfold column
  rw [h0, h1, canon_slab, canon_slab, canon_slab, canon_slab, pick_at, pick_at, pickI_at, pickI_at]
  simp only [fa, ga] at hg ⊢
  unfold Cmpx.apply
  show _ = if c = b then min (entry (View.canon L0 (ix3 b r n)) (View.canon L1 (ix3 b r n))) (entry (View.canon L0 (ix3 a r n)) (View.canon L1 (ix3 a r n)))
    else if c = a then max (entry (View.canon L0 (ix3 b r n)) (View.canon L1 (ix3 b r n))) (entry (View.canon L0 (ix3 a r n)) (View.canon L1 (ix3 a r n))) else _
  simp only [Fin.ext_iff (a := c)]
  rcases Classical.em (goesFirst (values v0 L0 a) (values v0 L0 b) (places v1 L1 a) (places v1 L1 b) (ix2 r n) = 1#1) with hc | hc
  · simp only [if_pos hc]
    have hlt := (hg.mp hc).le
    rw [min_eq_left hlt, max_eq_right hlt]
    split <;> [rfl; (split <;> rfl)]
  · simp only [if_neg hc]
    have hlt := not_lt.mp (mt hg.mpr hc)
    rw [min_eq_right hlt, max_eq_left hlt]
    split <;> [rfl; (split <;> rfl)]

end Cert.Sampler

end
-- ==== Proof.K.Stages.lean ====
/- The eight slabs after the network's 19 exchanges: every column stands in selection order. -/
module

public import proofs.«01_k».proof.Proof.K.Slab

@[expose] public section

set_option maxRecDepth 16384

noncomputable section

namespace Cert.Sampler

open Idealize.ShloMosaic Idealize.ShloMosaic.SortNet Cert.KernelIdeal Cert.KernelIdeal.Gen

/-- A buffer filled slab by slab. -/
def slabs {e : EltTy} (f : (k : Fin 8) → (slabRect k).shape.Idx → Elt Ideal e) : List (View.Piece (Elt Ideal) S8x8x12500 e) :=
  [⟨slabRect 7, f 7⟩, ⟨slabRect 6, f 6⟩, ⟨slabRect 5, f 5⟩, ⟨slabRect 4, f 4⟩, ⟨slabRect 3, f 3⟩, ⟨slabRect 2, f 2⟩, ⟨slabRect 1, f 1⟩,
    ⟨slabRect 0, f 0⟩]

/-- An array written slab by slab, at an entry. -/
theorem canon_slabs {e : EltTy} (f : (k : Fin 8) → (slabRect k).shape.Idx → Elt Ideal e) (c r : Fin 8) (n : Fin 12500) :
    View.canon (slabs f) (ix3 c r n) = f c (ix3 (0 : Fin 1) r n) := by
  unfold slabs
  rw [canon_slab, canon_slab, canon_slab, canon_slab, canon_slab, canon_slab, canon_slab, canon_slab]
  fin_cases c <;> rfl

/-- The positions of slab `k`: `8 n + k` in column `n`. -/
def positions (k : Fin 8) : IVec S1x8x12500 32 :=
  shapeCast S1x8x12500 (addi (muli (iota .tc S8x12500 32 [1] iota_S8x12500_d1_w32) (broadcast S8x12500 8#32))
    (broadcast S8x12500 (BitVec.ofNat 32 k.val))) shapeCasts_S8x12500_S1x8x12500

/-- The positions written at the start, at an entry. -/
theorem positions_at (k r : Fin 8) (n : Fin 12500) : positions k (ix3 0 r n) = BitVec.ofNat 32 (8 * n.val + k.val) := by
  pointwise [positions]
  have := n.isLt
  have := k.isLt
  apply BitVec.eq_of_toNat_eq
  simp only [IntOp.addi, IntOp.muli, BitVec.toNat_add, BitVec.toNat_mul, BitVec.toNat_ofNat]
  omega

section
variable (d : Dev nD) (arg1 : Memref sig Kind.tc Space.vmem S8x100000 EltTy.f32) (harg1 : arg1.IsWhole)
  (arg2 : Memref sig Kind.tc Space.vmem S8x8x12500 EltTy.f32) (harg2 : arg2.IsWhole) (arg3 : Memref sig Kind.tc Space.vmem S8x1 EltTy.f32)
  (harg3 : arg3.IsWhole) (arg10 : Memref sig Kind.tc Space.vmem S8x8x12500 EltTy.f32) (arg11 : Memref sig Kind.tc Space.vmem S8x8x12500 EltTy.i32)
  (x0 : Vec Ideal S8x100000 EltTy.f32) (x1 : Vec Ideal S8x8x12500 EltTy.f32) (x2 : Vec Ideal S8x1 EltTy.f32)

/-- Exchange 1 of the network, in a column. -/
theorem exchange_1 (r : Fin 8) (n : Fin 12500) :
    column (kernelRun0_A.sl.HS0_10 d arg1 harg1 arg2 harg2 arg3 harg3 arg10 arg11 x0 x1 x2) (kernelRun0_A.sl.HS1_10 d arg1 harg1 arg2 harg2 arg3 harg3 arg10 arg11 x0 x1 x2) r n
      = (swap 0 1 (by decide)).apply (column (kernelRun0_A.sl.HS0_8 d arg1 harg1 arg2 harg2 arg3 harg3 x0 x1 x2) kernelRun0_A.sl.HS1_8 r n) :=
  exchange 0 1 (by decide) arg10.view arg11.view rfl rfl r n

/-- Exchange 2 of the network, in a column. -/
theorem exchange_2 (r : Fin 8) (n : Fin 12500) :
    column (kernelRun0_A.sl.HS0_12 d arg1 harg1 arg2 harg2 arg3 harg3 arg10 arg11 x0 x1 x2) (kernelRun0_A.sl.HS1_12 d arg1 harg1 arg2 harg2 arg3 harg3 arg10 arg11 x0 x1 x2) r n
      = (swap 2 3 (by decide)).apply (column (kernelRun0_A.sl.HS0_10 d arg1 harg1 arg2 harg2 arg3 harg3 arg10 arg11 x0 x1 x2) (kernelRun0_A.sl.HS1_10 d arg1 harg1 arg2 harg2 arg3 harg3 arg10 arg11 x0 x1 x2) r n) :=
  exchange 2 3 (by decide) arg10.view arg11.view rfl rfl r n

/-- Exchange 3 of the network, in a column. -/
theorem exchange_3 (r : Fin 8) (n : Fin 12500) :
    column (kernelRun0_A.sl.HS0_14 d arg1 harg1 arg2 harg2 arg3 harg3 arg10 arg11 x0 x1 x2) (kernelRun0_A.sl.HS1_14 d arg1 harg1 arg2 harg2 arg3 harg3 arg10 arg11 x0 x1 x2) r n
      = (swap 4 5 (by decide)).apply (column (kernelRun0_A.sl.HS0_12 d arg1 harg1 arg2 harg2 arg3 harg3 arg10 arg11 x0 x1 x2) (kernelRun0_A.sl.HS1_12 d arg1 harg1 arg2 harg2 arg3 harg3 arg10 arg11 x0 x1 x2) r n) :=
  exchange 4 5 (by decide) arg10.view arg11.view rfl rfl r n

/-- Exchange 4 of the network, in a column. -/
theorem exchange_4 (r : Fin 8) (n : Fin 12500) :
    column (kernelRun0_A.sl.HS0_16 d arg1 harg1 arg2 harg2 arg3 harg3 arg10 arg11 x0 x1 x2) (kernelRun0_A.sl.HS1_16 d arg1 harg1 arg2 harg2 arg3 harg3 arg10 arg11 x0 x1 x2) r n
      = (swap 6 7 (by decide)).apply (column (kernelRun0_A.sl.HS0_14 d arg1 harg1 arg2 harg2 arg3 harg3 arg10 arg11 x0 x1 x2) (kernelRun0_A.sl.HS1_14 d arg1 harg1 arg2 harg2 arg3 harg3 arg10 arg11 x0 x1 x2) r n) :=
  exchange 6 7 (by decide) arg10.view arg11.view rfl rfl r n

/-- Exchange 5 of the network, in a column. -/
theorem exchange_5 (r : Fin 8) (n : Fin 12500) :
    column (kernelRun0_A.sl.HS0_18 d arg1 harg1 arg2 harg2 arg3 harg3 arg10 arg11 x0 x1 x2) (kernelRun0_A.sl.HS1_18 d arg1 harg1 arg2 harg2 arg3 harg3 arg10 arg11 x0 x1 x2) r n
      = (swap 0 2 (by decide)).apply (column (kernelRun0_A.sl.HS0_16 d arg1 harg1 arg2 harg2 arg3 harg3 arg10 arg11 x0 x1 x2) (kernelRun0_A.sl.HS1_16 d arg1 harg1 arg2 harg2 arg3 harg3 arg10 arg11 x0 x1 x2) r n) :=
  exchange 0 2 (by decide) arg10.view arg11.view rfl rfl r n

/-- Exchange 6 of the network, in a column. -/
theorem exchange_6 (r : Fin 8) (n : Fin 12500) :
    column (kernelRun0_A.sl.HS0_20 d arg1 harg1 arg2 harg2 arg3 harg3 arg10 arg11 x0 x1 x2) (kernelRun0_A.sl.HS1_20 d arg1 harg1 arg2 harg2 arg3 harg3 arg10 arg11 x0 x1 x2) r n
      = (swap 1 3 (by decide)).apply (column (kernelRun0_A.sl.HS0_18 d arg1 harg1 arg2 harg2 arg3 harg3 arg10 arg11 x0 x1 x2) (kernelRun0_A.sl.HS1_18 d arg1 harg1 arg2 harg2 arg3 harg3 arg10 arg11 x0 x1 x2) r n) :=
  exchange 1 3 (by decide) arg10.view arg11.view rfl rfl r n

/-- Exchange 7 of the network, in a column. -/
theorem exchange_7 (r : Fin 8) (n : Fin 12500) :
    column (kernelRun0_A.sl.HS0_22 d arg1 harg1 arg2 harg2 arg3 harg3 arg10 arg11 x0 x1 x2) (kernelRun0_A.sl.HS1_22 d arg1 harg1 arg2 harg2 arg3 harg3 arg10 arg11 x0 x1 x2) r n
      = (swap 4 6 (by decide)).apply (column (kernelRun0_A.sl.HS0_20 d arg1 harg1 arg2 harg2 arg3 harg3 arg10 arg11 x0 x1 x2) (kernelRun0_A.sl.HS1_20 d arg1 harg1 arg2 harg2 arg3 harg3 arg10 arg11 x0 x1 x2) r n) :=
  exchange 4 6 (by decide) arg10.view arg11.view rfl rfl r n

/-- Exchange 8 of the network, in a column. -/
theorem exchange_8 (r : Fin 8) (n : Fin 12500) :
    column (kernelRun0_A.sl.HS0_24 d arg1 harg1 arg2 harg2 arg3 harg3 arg10 arg11 x0 x1 x2) (kernelRun0_A.sl.HS1_24 d arg1 harg1 arg2 harg2 arg3 harg3 arg10 arg11 x0 x1 x2) r n
      = (swap 5 7 (by decide)).apply (column (kernelRun0_A.sl.HS0_22 d arg1 harg1 arg2 harg2 arg3 harg3 arg10 arg11 x0 x1 x2) (kernelRun0_A.sl.HS1_22 d arg1 harg1 arg2 harg2 arg3 harg3 arg10 arg11 x0 x1 x2) r n) :=
  exchange 5 7 (by decide) arg10.view arg11.view rfl rfl r n

/-- Exchange 9 of the network, in a column. -/
theorem exchange_9 (r : Fin 8) (n : Fin 12500) :
    column (kernelRun0_A.sl.HS0_26 d arg1 harg1 arg2 harg2 arg3 harg3 arg10 arg11 x0 x1 x2) (kernelRun0_A.sl.HS1_26 d arg1 harg1 arg2 harg2 arg3 harg3 arg10 arg11 x0 x1 x2) r n
      = (swap 1 2 (by decide)).apply (column (kernelRun0_A.sl.HS0_24 d arg1 harg1 arg2 harg2 arg3 harg3 arg10 arg11 x0 x1 x2) (kernelRun0_A.sl.HS1_24 d arg1 harg1 arg2 harg2 arg3 harg3 arg10 arg11 x0 x1 x2) r n) :=
  exchange 1 2 (by decide) arg10.view arg11.view rfl rfl r n

/-- Exchange 10 of the network, in a column. -/
theorem exchange_10 (r : Fin 8) (n : Fin 12500) :
    column (kernelRun0_A.sl.HS0_28 d arg1 harg1 arg2 harg2 arg3 harg3 arg10 arg11 x0 x1 x2) (kernelRun0_A.sl.HS1_28 d arg1 harg1 arg2 harg2 arg3 harg3 arg10 arg11 x0 x1 x2) r n
      = (swap 5 6 (by decide)).apply (column (kernelRun0_A.sl.HS0_26 d arg1 harg1 arg2 harg2 arg3 harg3 arg10 arg11 x0 x1 x2) (kernelRun0_A.sl.HS1_26 d arg1 harg1 arg2 harg2 arg3 harg3 arg10 arg11 x0 x1 x2) r n) :=
  exchange 5 6 (by decide) arg10.view arg11.view rfl rfl r n

/-- Exchange 11 of the network, in a column. -/
theorem exchange_11 (r : Fin 8) (n : Fin 12500) :
    column (kernelRun0_A.sl.HS0_30 d arg1 harg1 arg2 harg2 arg3 harg3 arg10 arg11 x0 x1 x2) (kernelRun0_A.sl.HS1_30 d arg1 harg1 arg2 harg2 arg3 harg3 arg10 arg11 x0 x1 x2) r n
      = (swap 0 4 (by decide)).apply (column (kernelRun0_A.sl.HS0_28 d arg1 harg1 arg2 harg2 arg3 harg3 arg10 arg11 x0 x1 x2) (kernelRun0_A.sl.HS1_28 d arg1 harg1 arg2 harg2 arg3 harg3 arg10 arg11 x0 x1 x2) r n) :=
  exchange 0 4 (by decide) arg10.view arg11.view rfl rfl r n

/-- Exchange 12 of the network, in a column. -/
theorem exchange_12 (r : Fin 8) (n : Fin 12500) :
    column (kernelRun0_A.sl.HS0_32 d arg1 harg1 arg2 harg2 arg3 harg3 arg10 arg11 x0 x1 x2) (kernelRun0_A.sl.HS1_32 d arg1 harg1 arg2 harg2 arg3 harg3 arg10 arg11 x0 x1 x2) r n
      = (swap 1 5 (by decide)).apply (column (kernelRun0_A.sl.HS0_30 d arg1 harg1 arg2 harg2 arg3 harg3 arg10 arg11 x0 x1 x2) (kernelRun0_A.sl.HS1_30 d arg1 harg1 arg2 harg2 arg3 harg3 arg10 arg11 x0 x1 x2) r n) :=
  exchange 1 5 (by decide) arg10.view arg11.view rfl rfl r n

/-- Exchange 13 of the network, in a column. -/
theorem exchange_13 (r : Fin 8) (n : Fin 12500) :
    column (kernelRun0_A.sl.HS0_34 d arg1 harg1 arg2 harg2 arg3 harg3 arg10 arg11 x0 x1 x2) (kernelRun0_A.sl.HS1_34 d arg1 harg1 arg2 harg2 arg3 harg3 arg10 arg11 x0 x1 x2) r n
      = (swap 2 6 (by decide)).apply (column (kernelRun0_A.sl.HS0_32 d arg1 harg1 arg2 harg2 arg3 harg3 arg10 arg11 x0 x1 x2) (kernelRun0_A.sl.HS1_32 d arg1 harg1 arg2 harg2 arg3 harg3 arg10 arg11 x0 x1 x2) r n) :=
  exchange 2 6 (by decide) arg10.view arg11.view rfl rfl r n

/-- Exchange 14 of the network, in a column. -/
theorem exchange_14 (r : Fin 8) (n : Fin 12500) :
    column (kernelRun0_A.sl.HS0_36 d arg1 harg1 arg2 harg2 arg3 harg3 arg10 arg11 x0 x1 x2) (kernelRun0_A.sl.HS1_36 d arg1 harg1 arg2 harg2 arg3 harg3 arg10 arg11 x0 x1 x2) r n
      = (swap 3 7 (by decide)).apply (column (kernelRun0_A.sl.HS0_34 d arg1 harg1 arg2 harg2 arg3 harg3 arg10 arg11 x0 x1 x2) (kernelRun0_A.sl.HS1_34 d arg1 harg1 arg2 harg2 arg3 harg3 arg10 arg11 x0 x1 x2) r n) :=
  exchange 3 7 (by decide) arg10.view arg11.view rfl rfl r n

/-- Exchange 15 of the network, in a column. -/
theorem exchange_15 (r : Fin 8) (n : Fin 12500) :
    column (kernelRun0_A.sl.HS0_38 d arg1 harg1 arg2 harg2 arg3 harg3 arg10 arg11 x0 x1 x2) (kernelRun0_A.sl.HS1_38 d arg1 harg1 arg2 harg2 arg3 harg3 arg10 arg11 x0 x1 x2) r n
      = (swap 2 4 (by decide)).apply (column (kernelRun0_A.sl.HS0_36 d arg1 harg1 arg2 harg2 arg3 harg3 arg10 arg11 x0 x1 x2) (kernelRun0_A.sl.HS1_36 d arg1 harg1 arg2 harg2 arg3 harg3 arg10 arg11 x0 x1 x2) r n) :=
  exchange 2 4 (by decide) arg10.view arg11.view rfl rfl r n

/-- Exchange 16 of the network, in a column. -/
theorem exchange_16 (r : Fin 8) (n : Fin 12500) :
    column (kernelRun0_A.sl.HS0_40 d arg1 harg1 arg2 harg2 arg3 harg3 arg10 arg11 x0 x1 x2) (kernelRun0_A.sl.HS1_40 d arg1 harg1 arg2 harg2 arg3 harg3 arg10 arg11 x0 x1 x2) r n
      = (swap 3 5 (by decide)).apply (column (kernelRun0_A.sl.HS0_38 d arg1 harg1 arg2 harg2 arg3 harg3 arg10 arg11 x0 x1 x2) (kernelRun0_A.sl.HS1_38 d arg1 harg1 arg2 harg2 arg3 harg3 arg10 arg11 x0 x1 x2) r n) :=
  exchange 3 5 (by decide) arg10.view arg11.view rfl rfl r n

/-- Exchange 17 of the network, in a column. -/
theorem exchange_17 (r : Fin 8) (n : Fin 12500) :
    column (kernelRun0_A.sl.HS0_42 d arg1 harg1 arg2 harg2 arg3 harg3 arg10 arg11 x0 x1 x2) (kernelRun0_A.sl.HS1_42 d arg1 harg1 arg2 harg2 arg3 harg3 arg10 arg11 x0 x1 x2) r n
      = (swap 1 2 (by decide)).apply (column (kernelRun0_A.sl.HS0_40 d arg1 harg1 arg2 harg2 arg3 harg3 arg10 arg11 x0 x1 x2) (kernelRun0_A.sl.HS1_40 d arg1 harg1 arg2 harg2 arg3 harg3 arg10 arg11 x0 x1 x2) r n) :=
  exchange 1 2 (by decide) arg10.view arg11.view rfl rfl r n

/-- Exchange 18 of the network, in a column. -/
theorem exchange_18 (r : Fin 8) (n : Fin 12500) :
    column (kernelRun0_A.sl.HS0_44 d arg1 harg1 arg2 harg2 arg3 harg3 arg10 arg11 x0 x1 x2) (kernelRun0_A.sl.HS1_44 d arg1 harg1 arg2 harg2 arg3 harg3 arg10 arg11 x0 x1 x2) r n
      = (swap 3 4 (by decide)).apply (column (kernelRun0_A.sl.HS0_42 d arg1 harg1 arg2 harg2 arg3 harg3 arg10 arg11 x0 x1 x2) (kernelRun0_A.sl.HS1_42 d arg1 harg1 arg2 harg2 arg3 harg3 arg10 arg11 x0 x1 x2) r n) :=
  exchange 3 4 (by decide) arg10.view arg11.view rfl rfl r n

/-- Exchange 19 of the network, in a column. -/
theorem exchange_19 (r : Fin 8) (n : Fin 12500) :
    column (kernelRun0_A.sl.HS0_46 d arg1 harg1 arg2 harg2 arg3 harg3 arg10 arg11 x0 x1 x2) (kernelRun0_A.sl.HS1_46 d arg1 harg1 arg2 harg2 arg3 harg3 arg10 arg11 x0 x1 x2) r n
      = (swap 5 6 (by decide)).apply (column (kernelRun0_A.sl.HS0_44 d arg1 harg1 arg2 harg2 arg3 harg3 arg10 arg11 x0 x1 x2) (kernelRun0_A.sl.HS1_44 d arg1 harg1 arg2 harg2 arg3 harg3 arg10 arg11 x0 x1 x2) r n) :=
  exchange 5 6 (by decide) arg10.view arg11.view rfl rfl r n

/-- Each column after all exchanges is the network's output on the column before them. -/
theorem columns_sorted (r : Fin 8) (n : Fin 12500) :
    column (kernelRun0_A.sl.HS0_46 d arg1 harg1 arg2 harg2 arg3 harg3 arg10 arg11 x0 x1 x2) (kernelRun0_A.sl.HS1_46 d arg1 harg1 arg2 harg2 arg3 harg3 arg10 arg11 x0 x1 x2) r n = Network.apply net (column (kernelRun0_A.sl.HS0_8 d arg1 harg1 arg2 harg2 arg3 harg3 x0 x1 x2) kernelRun0_A.sl.HS1_8 r n) := by
  rw [exchange_19, exchange_18, exchange_17, exchange_16, exchange_15, exchange_14, exchange_13, exchange_12, exchange_11, exchange_10, exchange_9, exchange_8, exchange_7, exchange_6, exchange_5, exchange_4, exchange_3, exchange_2, exchange_1]
  rfl

end

end Cert.Sampler

end
-- ==== Proof.K.Extract.lean ====
/- Taking the greatest head of many descending columns, again and again, takes the elements in selection order. -/
module

public import proofs.«01_k».proof.Proof.K.Order

@[expose] public section

noncomputable section

namespace Cert.Sampler

open Idealize.ShloMosaic

/-- An element that is none of the first `t` of the order, and that no other such element precedes, is the `t`-th. -/
theorem eq_sortedFrom {n : ℕ} {B : Fin n → Fin n → Bool} (hB : StrictTotalBefore B) (t f : Fin n)
    (hf : ∀ j : Fin n, j < t → sortedFrom B j ≠ f)
    (hmin : ∀ e, (∀ j : Fin n, j < t → sortedFrom B j ≠ e) → B e f = false) : f = sortedFrom B t := by
  have hl := length_sortPositions n B
  obtain ⟨j, hj⟩ := sortedFrom_surjective B f
  have hjt : t ≤ j := by
    by_contra hc
    exact hf j (not_le.mp hc) hj
  rcases hjt.eq_or_lt with h | h
  · rw [h]; exact hj.symm
  · exfalso
    have hs := hB.sorted_stableSort (List.finRange n)
    have h1 : B (sortedFrom B j) (sortedFrom B t) = false :=
      List.pairwise_iff_get.mp hs (Fin.cast hl.symm t) (Fin.cast hl.symm j) (by rw [Fin.lt_def] at h ⊢; exact h)
    have h2 : B (sortedFrom B t) f = false := hmin _ fun i hi he => (hi.ne (sortedFrom_injective B he)).elim
    rw [← hj] at h2
    have hne : sortedFrom B t ≠ sortedFrom B j := fun he => (h.ne (sortedFrom_injective B he)).elim
    rcases hB.total _ _ hne with h3 | h3
    · rw [h2] at h3; exact Bool.false_ne_true h3
    · rw [h1] at h3; exact Bool.false_ne_true h3

/-- The word of a position. -/
def word {N : ℕ} (e : Fin N) : BitVec 32 := BitVec.ofNat 32 e.val

/-- The word of a position stands for the position. -/
theorem word_toInt {N : ℕ} (hN : N < 2 ^ 31) (e : Fin N) : (word e).toInt = (e.val : ℤ) := by
  have he := e.isLt
  unfold word
  rw [BitVec.toInt_eq_toNat_of_lt (by rw [BitVec.toNat_ofNat, Nat.mod_eq_of_lt (by omega)]; omega), BitVec.toNat_ofNat,
    Nat.mod_eq_of_lt (by omega)]

/-- Positions with one word are one position. -/
theorem word_inj {N : ℕ} (hN : N < 2 ^ 31) {e f : Fin N} (h : word e = word f) : e = f := by
  have := congrArg BitVec.toInt h
  rw [word_toInt hN, word_toInt hN] at this
  exact Fin.ext (by exact_mod_cast this)

variable {N C : ℕ}

/-- What the columns hold, `u` where nothing is left, when the first `t` elements of the order are gone: column `n` has lost its `k n` first. -/
structure Holds (u : EReal) (p : Fin N → EReal) (s : Fin C → Fin 8 → Fin N) (X : Fin 8 → Fin C → EReal) (W : Fin 8 → Fin C → BitVec 32)
    (t : ℕ) (k : Fin C → ℕ) : Prop where
  value : ∀ c n, X c n = if h : c.val + k n < 8 then p (s n ⟨c.val + k n, h⟩) else u
  place : ∀ c n, W c n = word (s n ⟨min (c.val + k n) 7, by omega⟩)
  gone : ∀ n c, c.val < k n ↔ ∃ j : Fin N, j.val < t ∧ sortedFrom (before p) j = s n c

/-- One extraction: `m` the greatest head, `w` the greatest position's word among the heads equal to it. -/
structure Extracts (u : EReal) (X X' : Fin 8 → Fin C → EReal) (W W' : Fin 8 → Fin C → BitVec 32) (m : EReal) (w : BitVec 32) : Prop where
  le : ∀ n, X 0 n ≤ m
  word_le : ∀ n, X 0 n = m → (W 0 n).toInt ≤ w.toInt
  at_head : ∃ n, X 0 n = m ∧ W 0 n = w
  shift : ∀ (c : Fin 8) (n : Fin C) (h : c.val + 1 < 8), W 0 n = w →
    X' c n = X ⟨c.val + 1, h⟩ n ∧ W' c n = W ⟨c.val + 1, h⟩ n
  last : ∀ n, W 0 n = w → X' 7 n = u
  last_place : ∀ n, W' 7 n = W 7 n
  keep : ∀ c n, W 0 n ≠ w → X' c n = X c n ∧ W' c n = W c n

/-- The slab at which a column's head stands is one of the eight. -/
theorem Holds.place_lt {u : EReal} {p : Fin N → EReal} {s : Fin C → Fin 8 → Fin N} {X : Fin 8 → Fin C → EReal}
    {W : Fin 8 → Fin C → BitVec 32} {t : ℕ} {k : Fin C → ℕ} (H : Holds u p s X W t k) (c : Fin 8) (n : Fin C)
    (h : c.val + k n < 8) : W c n = word (s n ⟨c.val + k n, h⟩) := by
  rw [H.place]
  congr 2
  exact Fin.ext (min_eq_left (by omega))

/-- Taking out the greatest entry keeps the invariant, one trip further. -/
theorem extract_step {u : EReal} {p : Fin N → EReal} {s : Fin C → Fin 8 → Fin N} (hN : N < 2 ^ 31)
    (hs : ∀ n n' c c', s n c = s n' c' → n = n' ∧ c = c') (hsur : ∀ e, ∃ n c, s n c = e)
    (hdesc : ∀ n c c', c ≤ c' → entry (p (s n c')) (word (s n c')) ≤ entry (p (s n c)) (word (s n c)))
    {X X' : Fin 8 → Fin C → EReal} {W W' : Fin 8 → Fin C → BitVec 32} {m : EReal} {w : BitVec 32} (t : Fin N) {k : Fin C → ℕ}
    (H : Holds u p s X W t k) (hlive : (u < 0 ∧ ∀ e, 0 ≤ p e) ∨ ∀ n, k n = 0) (S : Extracts u X X' W W' m w) :
    m = p (sortedFrom (before p) t) ∧ w = word (sortedFrom (before p) t) ∧ ∃ k', Holds u p s X' W' (t + 1) k' := by
  -- an element not gone is no better than its column's head
  have hhead : ∀ n c, ¬ c.val < k n → ∃ h : (0 : Fin 8).val + k n < 8, X 0 n = p (s n ⟨(0 : Fin 8).val + k n, h⟩) ∧
      W 0 n = word (s n ⟨(0 : Fin 8).val + k n, h⟩) ∧ entry (p (s n c)) (word (s n c)) ≤ entry (X 0 n) (W 0 n) := by
    intro n c hc
    have h : (0 : Fin 8).val + k n < 8 := by have := c.isLt; simp only [Fin.val_zero, zero_add]; omega
    have hX : X 0 n = p (s n ⟨(0 : Fin 8).val + k n, h⟩) := by rw [H.value, dif_pos h]
    have hW := H.place_lt 0 n h
    refine ⟨h, hX, hW, ?_⟩
    rw [hX, hW]
    exact hdesc n _ c (by rw [Fin.le_def]; simp only [Fin.val_zero, zero_add]; omega)
  -- the head value is not the filler
  have hlive : ∀ n, X 0 n = m → (0 : Fin 8).val + k n < 8 := by
    rcases hlive with ⟨hneg, hp⟩ | hz
    · have hm : 0 ≤ m := by
        obtain ⟨n, c, hnc⟩ := hsur (sortedFrom (before p) t)
        have hc : ¬ c.val < k n := fun h => by
          obtain ⟨j, hj, he⟩ := (H.gone n c).mp h
          rw [hnc] at he
          exact absurd (congrArg Fin.val (sortedFrom_injective _ he)) hj.ne
        obtain ⟨h, hX, -, -⟩ := hhead n c hc
        exact (hp _).trans (hX.symm.trans_le (S.le n))
      intro n hX
      by_contra hc
      rw [H.value, dif_neg hc] at hX
      exact absurd hm (not_le.mpr (hX ▸ hneg))
    · intro n _
      rw [hz n]
      show 0 + 0 < 8
      omega
  obtain ⟨n₀, hX₀, hW₀⟩ := S.at_head
  have h₀ := hlive n₀ hX₀
  have hv₀ : X 0 n₀ = p (s n₀ ⟨(0 : Fin 8).val + k n₀, h₀⟩) := by rw [H.value, dif_pos h₀]
  have hw₀ := H.place_lt 0 n₀ h₀
  have hf : s n₀ ⟨(0 : Fin 8).val + k n₀, h₀⟩ = sortedFrom (before p) t := by
    refine eq_sortedFrom (before_total p) t _ (fun j hj he => ?_) fun e he => ?_
    · have := (H.gone n₀ ⟨(0 : Fin 8).val + k n₀, h₀⟩).mpr ⟨j, hj, he⟩
      simp at this
    · obtain ⟨n, c, hnc⟩ := hsur e
      have hc : ¬ c.val < k n := fun h => by
        obtain ⟨j, hj, hje⟩ := (H.gone n c).mp h
        exact he j hj (hje.trans hnc)
      obtain ⟨h, hX, hW, hle⟩ := hhead n c hc
      rw [hnc] at hle
      have hle' : entry (X 0 n) (W 0 n) ≤ entry m w := by
        rcases (S.le n).lt_or_eq with hlt | heq
        · exact (entry_lt.mpr (Or.inl hlt)).le
        · rcases (S.word_le n heq).lt_or_eq with hlt | hweq
          · exact (entry_lt.mpr (Or.inr ⟨heq, hlt⟩)).le
          · unfold entry; rw [heq, hweq]
      have hE := hle.trans hle'
      rw [← hX₀, ← hW₀, hv₀, hw₀] at hE
      have hn := not_lt.mpr hE
      rw [entry_lt, word_toInt hN, word_toInt hN] at hn
      push Not at hn
      unfold before
      rw [decide_eq_false (not_lt.mpr hn.1), Bool.false_or, Bool.and_eq_false_iff]
      by_cases hpe : p e = p (s n₀ ⟨(0 : Fin 8).val + k n₀, h₀⟩)
      · right
        have := hn.2 hpe.symm
        refine decide_eq_false (not_lt.mpr ?_)
        rw [Fin.le_def]; exact_mod_cast this
      · left; exact decide_eq_false hpe
  have hwf : w = word (sortedFrom (before p) t) := by rw [← hf, ← hw₀, hW₀]
  have hsel : ∀ n, W 0 n = w ↔ n = n₀ := fun n => by
    refine ⟨fun hW => ?_, fun h => h ▸ hW₀⟩
    by_cases h : (0 : Fin 8).val + k n < 8
    · have e := H.place_lt 0 n h
      rw [hW, ← hW₀, hw₀] at e
      exact (hs _ _ _ _ (word_inj hN e)).1.symm
    · exfalso
      have e := H.place 0 n
      rw [hW, hwf] at e
      have e' := word_inj hN e
      obtain ⟨j, hj, he⟩ := (H.gone n ⟨min ((0 : Fin 8).val + k n) 7, by omega⟩).mp (by
        have : (0 : Fin 8).val = 0 := rfl
        show min ((0 : Fin 8).val + k n) 7 < k n
        omega)
      rw [← e'] at he
      exact absurd (congrArg Fin.val (sortedFrom_injective _ he)) hj.ne
  refine ⟨by rw [← hf, ← hv₀, hX₀], hwf, fun n => if n = n₀ then k n + 1 else k n, ?_, ?_, ?_⟩
  · intro c n
    by_cases hn : n = n₀
    · have hs' := (hsel n).mpr hn
      simp only [if_pos hn]
      by_cases hc : c.val + 1 < 8
      · rw [(S.shift c n hc hs').1, H.value]
        have e : c.val + 1 + k n = c.val + (k n + 1) := by omega
        by_cases h8 : c.val + (k n + 1) < 8
        · rw [dif_pos h8, dif_pos (by simpa only [e] using h8)]
          simp only [e]
        · rw [dif_neg h8, dif_neg (by simpa only [e] using h8)]
      · have : c = 7 := Fin.ext (by have := c.isLt; simp; omega)
        subst this
        rw [S.last n hs', dif_neg (by show ¬ 7 + (k n + 1) < 8; omega)]
    · rw [(S.keep c n (mt (hsel n).mp hn)).1, H.value]
      simp only [if_neg hn]
  · intro c n
    by_cases hn : n = n₀
    · have hs' := (hsel n).mpr hn
      simp only [if_pos hn]
      by_cases hc : c.val + 1 < 8
      · rw [(S.shift c n hc hs').2, H.place]
        have e : c.val + 1 + k n = c.val + (k n + 1) := by omega
        simp only [e]
      · have : c = 7 := Fin.ext (by have := c.isLt; simp; omega)
        subst this
        rw [S.last_place n, H.place]
        congr 2
        exact Fin.ext (by show min (7 + k n) 7 = min (7 + (k n + 1)) 7; omega)
    · rw [(S.keep c n (mt (hsel n).mp hn)).2, H.place]
      simp only [if_neg hn]
  · intro n c
    have hsplit : (∃ j : Fin N, j.val < t.val + 1 ∧ sortedFrom (before p) j = s n c) ↔
        c.val < k n ∨ sortedFrom (before p) t = s n c := by
      rw [H.gone]
      constructor
      · rintro ⟨j, hj, he⟩
        rcases Nat.lt_succ_iff_lt_or_eq.mp hj with h | h
        · exact Or.inl ⟨j, h, he⟩
        · right; rw [← he, Fin.ext h]
      · rintro (⟨j, hj, he⟩ | he)
        · exact ⟨j, by omega, he⟩
        · exact ⟨t, by omega, he⟩
    rw [hsplit, ← hf]
    by_cases hn : n = n₀
    · subst hn
      simp only [if_true]
      constructor
      · intro h
        rcases Nat.lt_succ_iff_lt_or_eq.mp h with h | h
        · exact Or.inl h
        · right; congr 1; exact Fin.ext (by simp [h])
      · rintro (h | h)
        · omega
        · have := congrArg Fin.val (hs _ _ _ _ h).2
          simp at this; omega
    · simp only [if_neg hn]
      constructor
      · exact Or.inl
      · rintro (h | h)
        · exact h
        · exact absurd (hs _ _ _ _ h).1.symm hn

/-- The invariant holds ahead of the first trip. -/
theorem holds_start {u : EReal} {p : Fin N → EReal} {s : Fin C → Fin 8 → Fin N} {X : Fin 8 → Fin C → EReal} {W : Fin 8 → Fin C → BitVec 32}
    (hX0 : ∀ c n, X c n = p (s n c)) (hW0 : ∀ c n, W c n = word (s n c)) : Holds u p s X W 0 fun _ => 0 := by
  refine ⟨fun c n => ?_, fun c n => ?_, fun n c => ?_⟩
  · rw [hX0, dif_pos (by have := c.isLt; omega)]; rfl
  · rw [hW0]; congr 2; exact Fin.ext (by have := c.isLt; show c.val = min (c.val + 0) 7; omega)
  · simp

/-- The extraction repeated `T` times yields the first `T` elements of the order, values and positions. -/
theorem extract_all {u : EReal} (hneg : u < 0) {p : Fin N → EReal} {s : Fin C → Fin 8 → Fin N} (hN : N < 2 ^ 31) (hp : ∀ e, 0 ≤ p e)
    (hs : ∀ n n' c c', s n c = s n' c' → n = n' ∧ c = c') (hsur : ∀ e, ∃ n c, s n c = e)
    (hdesc : ∀ n c c', c ≤ c' → entry (p (s n c')) (word (s n c')) ≤ entry (p (s n c)) (word (s n c)))
    {T : ℕ} (hT : T ≤ N) (X : ℕ → Fin 8 → Fin C → EReal) (W : ℕ → Fin 8 → Fin C → BitVec 32) (m : ℕ → EReal) (w : ℕ → BitVec 32)
    (hX0 : ∀ c n, X 0 c n = p (s n c)) (hW0 : ∀ c n, W 0 c n = word (s n c))
    (hstep : ∀ t < T, Extracts u (X t) (X (t + 1)) (W t) (W (t + 1)) (m t) (w t)) (t : ℕ) (ht : t < T) :
    m t = p (sortedFrom (before p) ⟨t, by omega⟩) ∧ w t = word (sortedFrom (before p) ⟨t, by omega⟩) := by
  have h : ∀ t ≤ T, ∃ k, Holds u p s (X t) (W t) t k := by
    intro t
    induction t with
    | zero => exact fun _ => ⟨_, holds_start hX0 hW0⟩
    | succ t ih =>
      intro ht
      obtain ⟨k, hk⟩ := ih (by omega)
      exact (extract_step hN hs hsur hdesc ⟨t, by omega⟩ hk (Or.inl ⟨hneg, hp⟩) (hstep t (by omega))).2.2
  obtain ⟨k, hk⟩ := h t ht.le
  have := extract_step hN hs hsur hdesc ⟨t, by omega⟩ hk (Or.inl ⟨hneg, hp⟩) (hstep t ht)
  exact ⟨this.1, this.2.1⟩

/-- The first extraction yields the first element, whatever the values. -/
theorem extract_first {u : EReal} {p : Fin N → EReal} {s : Fin C → Fin 8 → Fin N} (hN : N < 2 ^ 31)
    (hs : ∀ n n' c c', s n c = s n' c' → n = n' ∧ c = c') (hsur : ∀ e, ∃ n c, s n c = e)
    (hdesc : ∀ n c c', c ≤ c' → entry (p (s n c')) (word (s n c')) ≤ entry (p (s n c)) (word (s n c)))
    (h0 : 0 < N) (X : ℕ → Fin 8 → Fin C → EReal) (W : ℕ → Fin 8 → Fin C → BitVec 32) (m : EReal) (w : BitVec 32)
    (hX0 : ∀ c n, X 0 c n = p (s n c)) (hW0 : ∀ c n, W 0 c n = word (s n c)) (hstep : Extracts u (X 0) (X 1) (W 0) (W 1) m w) :
    m = p (sortedFrom (before p) ⟨0, h0⟩) ∧ w = word (sortedFrom (before p) ⟨0, h0⟩) := by
  have := extract_step hN hs hsur hdesc ⟨0, h0⟩ (holds_start hX0 hW0) (Or.inr fun _ => rfl) hstep
  exact ⟨this.1, this.2.1⟩

/-- Where no value and no filler is positive, no extracted value is. -/
theorem extract_nonpos {u : EReal} (hu : u ≤ 0) {T : ℕ} (X : ℕ → Fin 8 → Fin C → EReal) (W : ℕ → Fin 8 → Fin C → BitVec 32) (m : ℕ → EReal)
    (w : ℕ → BitVec 32) (hX0 : ∀ c n, X 0 c n ≤ 0) (hstep : ∀ t < T, Extracts u (X t) (X (t + 1)) (W t) (W (t + 1)) (m t) (w t)) (t : ℕ)
    (ht : t < T) : m t ≤ 0 := by
  have h : ∀ t ≤ T, ∀ c n, X t c n ≤ 0 := by
    intro t
    induction t with
    | zero => exact fun _ => hX0
    | succ t ih =>
      intro ht c n
      have S := hstep t (by omega)
      have ih := ih (by omega)
      by_cases hw : W t 0 n = w t
      · by_cases hc : c.val + 1 < 8
        · rw [(S.shift c n hc hw).1]; exact ih _ _
        · have : c = 7 := Fin.ext (by have := c.isLt; simp; omega)
          subst this
          rw [S.last n hw]; exact hu
      · rw [(S.keep c n hw).1]; exact ih _ _
  obtain ⟨n, hn, -⟩ := (hstep t ht).at_head
  rw [← hn]
  exact h t ht.le 0 n

end Cert.Sampler

end
-- ==== Proof.K.Prob.lean ====
/- The softmax of a row of logits over its temperature, and the kernel's reading of it. -/
module

public import proofs.«01_k».proof.Proof.K.Stages
public import Idealize.ShloMosaic.Lib.WholeRead

@[expose] public section

set_option maxRecDepth 16384

noncomputable section

namespace Cert.Sampler

open Idealize.ShloMosaic Idealize.ShloMosaic.SortNet Cert.KernelIdeal Cert.KernelIdeal.Gen

/-- The greatest entry, from minus infinity on. -/
def rowMax {n : ℕ} (y : Fin n → EReal) : EReal := Finset.fold max (Ideal.ofBits .f32 0xFF800000#32) y Finset.univ

/-- The exponential of an entry over the temperature, less the greatest. -/
def expo {n : ℕ} (x : Fin n → EReal) (t : EReal) (e : Fin n) : EReal :=
  Ideal.exp (Ideal.div (x e) t - rowMax fun i => Ideal.div (x i) t)

/-- The probabilities of a row of logits at a temperature. -/
def prob {n : ℕ} (x : Fin n → EReal) (t : EReal) (e : Fin n) : EReal := Ideal.div (expo x t e) (∑ i, expo x t i)

/-- No exponential is negative. -/
theorem expo_nonneg {n : ℕ} (x : Fin n → EReal) (t : EReal) (e : Fin n) : 0 ≤ expo x t e := by
  unfold expo
  induction (Ideal.div (x e) t - rowMax fun i => Ideal.div (x i) t) using EReal.rec with
  | bot => exact le_refl _
  | top => exact le_top
  | coe r => exact EReal.coe_nonneg.mpr (Real.exp_pos r).le

/-- Either every probability is a number from 0 on, or (the infinite cases: all exponentials vanish) every one is minus infinity. -/
theorem prob_cases {n : ℕ} (x : Fin n → EReal) (t : EReal) : (∀ e, 0 ≤ prob x t e) ∨ ∀ e, prob x t e = ⊥ := by
  have hs : 0 ≤ ∑ i, expo x t i := Finset.sum_nonneg fun i _ => expo_nonneg x t i
  by_cases hz : ∑ i, expo x t i = 0
  · right
    intro e
    have h0 : expo x t e = 0 := (Finset.sum_eq_zero_iff_of_nonneg fun i _ => expo_nonneg x t i).mp hz e (Finset.mem_univ e)
    unfold prob Ideal.div
    rw [if_pos hz, h0, if_neg (lt_irrefl _)]
  · left
    intro e
    unfold prob Ideal.div
    rw [if_neg hz]
    exact mul_nonneg (expo_nonneg x t e) (EReal.inv_nonneg_of_nonneg hs)

/-- The kernel's greatest entry and its sum, at a row of the block. -/
theorem pay31_at (x : Vec Ideal S8x100000 .f32) (t : Vec Ideal S8x1 .f32) (r : Fin 8) :
    k0_pay31 x t (ix2 r 0) = rowMax fun i => Ideal.div (x (ix2 r i)) (t (ix2 r 0)) := by
  pointwise [k0_pay31, k0_pay30]
  rfl

/-- The kernel's sum of exponentials, at a row. -/
theorem pay33_at (x : Vec Ideal S8x100000 .f32) (t : Vec Ideal S8x1 .f32) (r : Fin 8) :
    k0_pay33 x t (ix2 r 0) = ∑ i, expo (fun i => x (ix2 r i)) (t (ix2 r 0)) i := by
  pointwise [k0_pay33, k0_pay32, k0_pay31, k0_pay30]
  rfl

/-- The kernel's log-probability. -/
theorem pay34_at (x : Vec Ideal S8x100000 .f32) (t : Vec Ideal S8x1 .f32) (r : Fin 8) (e : Fin 100000) :
    k0_pay34 x t (ix2 r e) = max (Ideal.log (prob (fun i => x (ix2 r i)) (t (ix2 r 0)) e)) (Ideal.ofBits .f32 0xFF7FFFFF#32) := by
  pointwise [k0_pay34, k0_pay33, k0_pay32, k0_pay31, k0_pay30]
  rfl

/-- The kernel's probability from a slice, at an entry. -/
theorem pay37_at (t m z : Vec Ideal S8x1 .f32) (y : Vec Ideal S8x1x12500 .f32) (r : Fin 8) (n : Fin 12500) : k0_pay37 t m z y (ix3 0 r n)
      = Ideal.div (Ideal.exp (Ideal.div (y (ix3 r 0 n)) (t (ix2 r 0)) - m (ix2 r 0))) (z (ix2 r 0)) := by
  pointwise [k0_pay37]

/-- Slab `c` of column `n` is one of the elements. -/
theorem elem_lt (n : Fin 12500) (c : Fin 8) : 8 * n.val + c.val < 100000 := by omega

/-- The element at slab `c` of column `n`, before the exchanges. -/
def elem (n : Fin 12500) (c : Fin 8) : Fin 100000 := ⟨8 * n.val + c.val, elem_lt n c⟩

section
variable (d : Dev nD) (arg1 : Memref sig Kind.tc Space.vmem S8x100000 EltTy.f32) (harg1 : arg1.IsWhole)
  (arg2 : Memref sig Kind.tc Space.vmem S8x8x12500 EltTy.f32) (harg2 : arg2.IsWhole) (arg3 : Memref sig Kind.tc Space.vmem S8x1 EltTy.f32)
  (harg3 : arg3.IsWhole) (arg10 : Memref sig Kind.tc Space.vmem S8x8x12500 EltTy.f32) (arg11 : Memref sig Kind.tc Space.vmem S8x8x12500 EltTy.i32)
  (x0 : Vec Ideal S8x100000 EltTy.f32) (x1 : Vec Ideal S8x8x12500 EltTy.f32) (x2 : Vec Ideal S8x1 EltTy.f32)

/-- The whole-window loads, and the load of slice `k` of the rearranged logits. -/
def logitsLoad : Vec Ideal S8x100000 .f32 :=
  View.readAt (Elt Ideal) arg1.view (Rect.unit ![0, 0] S8x100000.size inb_S8x100000_S8x100000_0_0).toLoadRect (harg1.unread x0)
/-- The temperatures that a step reads. -/
def tempLoad : Vec Ideal S8x1 .f32 :=
  View.readAt (Elt Ideal) arg3.view (Rect.unit ![0, 0] S8x1.size inb_S8x1_S8x1_0_0).toLoadRect (harg3.unread x2)

/-- Each slab lies within the sliced block. -/
theorem slice_fits (k : Fin 8) (a : Fin S8x8x12500.rank) :
    (![0, k.val, 0] : Fin 3 → ℕ) a + (S8x1x12500.size : Fin 3 → ℕ) a ≤ S8x8x12500.size a := by
  have := k.isLt
  fin_cases a
  · show 0 + 8 ≤ 8; omega
  · show k.val + 1 ≤ 8; omega
  · show 0 + 12500 ≤ 12500; omega

/-- The slab of the sliced logits that a step reads. -/
def sliceLoad (k : Fin 8) : Vec Ideal S8x1x12500 .f32 :=
  View.readAt (Elt Ideal) arg2.view (Rect.unit (s := S8x8x12500) ![0, k.val, 0] S8x1x12500.size (slice_fits k)).toLoadRect (harg2.unread x1)

/-- The logits that a step reads, at an entry. -/
theorem logitsLoad_at (r : Fin 8) (e : Fin 100000) : logitsLoad arg1 harg1 x0 (ix2 r e) = x0 (ix2 r e) := by
  unfold logitsLoad
  rw [harg1.readAt_unread]
  congr 1
  idx_ext

/-- The temperatures that a step reads, at a row. -/
theorem tempLoad_at (r : Fin 8) : tempLoad arg3 harg3 x2 (ix2 r 0) = x2 (ix2 r 0) := by
  unfold tempLoad
  rw [harg3.readAt_unread]
  congr 1
  idx_ext

/-- A slab that a step reads, at an entry. -/
theorem sliceLoad_at (k r : Fin 8) (n : Fin 12500) : sliceLoad arg2 harg2 x1 k (ix3 r 0 n) = x1 (ix3 r k n) := by
  unfold sliceLoad
  rw [harg2.readAt_unread]
  congr 1
  idx_ext

/-- The values written ahead of the exchanges. -/
theorem start_values : kernelRun0_A.sl.HS0_8 d arg1 harg1 arg2 harg2 arg3 harg3 x0 x1 x2
    = slabs (e := .f32) fun k => k0_pay37 (tempLoad arg3 harg3 x2) (k0_pay31 (logitsLoad arg1 harg1 x0) (tempLoad arg3 harg3 x2))
        (k0_pay33 (logitsLoad arg1 harg1 x0) (tempLoad arg3 harg3 x2)) (sliceLoad arg2 harg2 x1 k) := rfl

/-- The positions written ahead of the exchanges. -/
theorem start_places : (kernelRun0_A.sl.HS1_8 : List (View.Piece (Elt Ideal) S8x8x12500 EltTy.i32)) = slabs (e := .i32) positions := rfl

/-- Before the exchanges slab `c` holds, in column `n`, the probability of element `8 n + c`, and that position. -/
theorem start_column (hx : ∀ (r c : Fin 8) (n : Fin 12500), x1 (ix3 r c n) = x0 (ix2 r (elem n c))) (r : Fin 8) (n : Fin 12500)
    (c : Fin 8) : column (kernelRun0_A.sl.HS0_8 d arg1 harg1 arg2 harg2 arg3 harg3 x0 x1 x2) kernelRun0_A.sl.HS1_8 r n c
      = entry (prob (fun i => x0 (ix2 r i)) (x2 (ix2 r 0)) (elem n c)) (BitVec.ofNat 32 (8 * n.val + c.val)) := by
  unfold column
  rw [start_values, start_places, canon_slabs, canon_slabs, positions_at, pay37_at, pay31_at, pay33_at, tempLoad_at, sliceLoad_at, hx]
  simp only [logitsLoad_at]
  rfl

end

end Cert.Sampler

end
-- ==== Proof.K.Trip.lean ====
/- One trip of the selection loop: it takes the greatest head of the columns and moves that column up by one. -/
module

public import proofs.«01_k».proof.Proof.K.Stages
public import proofs.«01_k».proof.Proof.K.Extract
public import proofs.«01_k».proof.Proof.K.Prob
public import Idealize.ShloMosaic.Lib.WritesUnit

@[expose] public section

set_option maxRecDepth 16384

noncomputable section

namespace Cert.Sampler

open Idealize.ShloMosaic Idealize.ShloMosaic.SortNet Cert.KernelIdeal Cert.KernelIdeal.Gen

/-- The word of minus infinity is the least value. -/
theorem negInf : Ideal.ofBits .f32 0xFF800000#32 = ⊥ := by
  simp [Ideal.ofBits, Ideal.ieee, -EReal.coe_mul]

/-- The filler of spent places is negative. -/
theorem filler_neg : Ideal.ofBits .f32 0xBF800000#32 < 0 := by
  have : Ideal.ofBits .f32 0xBF800000#32 = ((-1 : ℝ) : EReal) := by
    simp [Ideal.ofBits, Ideal.ieee, -EReal.coe_mul]
    norm_num
  rw [this]
  exact_mod_cast (by norm_num : (-1 : ℝ) < 0)

/-- The greatest of a family over a nonempty range. -/
def most {n : ℕ} (x : Fin n → EReal) : EReal := Finset.fold max (Ideal.ofBits .f32 0xFF800000#32) x Finset.univ

/-- The greatest word, in signed order. -/
def mostWord {n : ℕ} (w : Fin n → BitVec 32) : BitVec 32 := Finset.fold IntOp.maxsi 2147483648#32 w Finset.univ

/-- Every member is at most the greatest. -/
theorem le_most {n : ℕ} (x : Fin n → EReal) (i : Fin n) : x i ≤ most x :=
  (Finset.le_fold_max _).mpr (Or.inr ⟨i, Finset.mem_univ i, le_rfl⟩)

/-- The greatest of a nonempty family is a member. -/
theorem most_mem {n : ℕ} (hn : 0 < n) (x : Fin n → EReal) : ∃ i, x i = most x := by
  obtain ⟨i, -, hi⟩ := Finset.exists_max_image Finset.univ x ⟨⟨0, hn⟩, Finset.mem_univ _⟩
  refine ⟨i, le_antisymm (le_most x i) ?_⟩
  unfold most
  rw [Finset.fold_max_le]
  exact ⟨by rw [negInf]; exact bot_le, hi⟩

/-- The signed maximum of words is that of the numbers they stand for. -/
theorem maxsi_toInt (a b : BitVec 32) : (IntOp.maxsi a b).toInt = max a.toInt b.toInt := by
  unfold IntOp.maxsi
  rw [BitVec.slt]
  split <;> rename_i h <;> simp at h <;> omega

/-- A fold of signed maxima is one of its members or the start, and none is above it. -/
theorem fold_maxsi {n : ℕ} (w : Fin n → BitVec 32) (S : Finset (Fin n)) :
    (∀ i ∈ S, (w i).toInt ≤ (Finset.fold IntOp.maxsi 2147483648#32 w S).toInt) ∧
    (Finset.fold IntOp.maxsi 2147483648#32 w S = 2147483648#32 ∨ ∃ i ∈ S, Finset.fold IntOp.maxsi 2147483648#32 w S = w i) := by
  induction S using Finset.induction_on with
  | empty => exact ⟨by simp, Or.inl (by simp)⟩
  | insert a S ha ih =>
    rw [Finset.fold_insert ha]
    constructor
    · intro i hi
      rw [maxsi_toInt]
      rcases Finset.mem_insert.mp hi with rfl | hi
      · exact le_max_left _ _
      · exact (ih.1 i hi).trans (le_max_right _ _)
    · have : ∀ u v : BitVec 32, IntOp.maxsi u v = u ∨ IntOp.maxsi u v = v := by
        intro u v; unfold IntOp.maxsi; split <;> simp
      rcases this (w a) (Finset.fold IntOp.maxsi 2147483648#32 w S) with h | h
      · exact Or.inr ⟨a, Finset.mem_insert_self _ _, h⟩
      · rw [h]
        rcases ih.2 with h' | ⟨i, hi, h'⟩
        · exact Or.inl h'
        · exact Or.inr ⟨i, Finset.mem_insert_of_mem hi, h'⟩

/-- Among the columns whose head is greatest, the greatest place: it is one of these columns' place. -/
theorem head_word {n : ℕ} (hn : 0 < n) (x : Fin n → EReal) (w : Fin n → BitVec 32) (hw : ∀ i, 0 ≤ (w i).toInt) :
    (∀ i, x i = most x → (w i).toInt ≤ (mostWord fun i => if x i = most x then w i else 4294967295#32).toInt) ∧
    ∃ i, x i = most x ∧ w i = mostWord fun i => if x i = most x then w i else 4294967295#32 := by
  have hle : ∀ i, x i = most x → (w i).toInt ≤ (mostWord fun i => if x i = most x then w i else 4294967295#32).toInt := by
    intro i hi
    have := (fold_maxsi (fun i => if x i = most x then w i else 4294967295#32) Finset.univ).1 i (Finset.mem_univ i)
    simp only [if_pos hi] at this
    exact this
  refine ⟨hle, ?_⟩
  obtain ⟨i, hi⟩ := most_mem hn x
  have h0 := (hw i).trans (hle i hi)
  rcases (fold_maxsi (fun i => if x i = most x then w i else 4294967295#32) Finset.univ).2 with h | ⟨j, -, h⟩
  · unfold mostWord at h0
    rw [h] at h0
    exact absurd h0 (by decide)
  · by_cases hj : x j = most x
    · simp only [if_pos hj] at h
      exact ⟨j, hj, h.symm⟩
    · simp only [if_neg hj] at h
      unfold mostWord at h0
      rw [h] at h0
      exact absurd h0 (by decide)

/-- The buffer's entry after one more store of slab `k`. -/
theorem read_store {e : EltTy} (v : View sig Kind.tc Space.vmem S8x8x12500 e) (f : v.ty.Contents (Elt Ideal)) (k : Fin 8)
    (w : (slabRect k).shape.Idx → Elt Ideal e) (L : List (View.Piece (Elt Ideal) S8x8x12500 e)) (c r : Fin 8) (n : Fin 12500) :
    v.read (Elt Ideal) (v.writes (Elt Ideal) f (⟨slabRect k, w⟩ :: L)) (ix3 c r n)
      = if c = k then w (ix3 (0 : Fin 1) r n) else v.read (Elt Ideal) (v.writes (Elt Ideal) f L) (ix3 c r n) := by
  split
  · next h =>
    subst h
    refine View.read_writes_cons_unit_of_mem v f (slab_fits c) w L _ (ix3 (0 : Fin 1) r n) rfl fun a => ?_
    fin_cases a
    · show c.val = c.val + 0; omega
    · show r.val = 0 + r.val; omega
    · show n.val = 0 + n.val; omega
  · next h =>
    refine View.read_writes_cons_unit_of_not_mem v f (slab_fits k) w L _ rfl (0 : Fin 3) ?_
    show c.val < k.val ∨ k.val + 1 ≤ c.val
    omega

/-- Slab `k` as it is read from the contents `f`. -/
def slabOf {e : EltTy} (v : View sig Kind.tc Space.vmem S8x8x12500 e) (f : v.ty.Contents (Elt Ideal)) (k : Fin 8) :
    (slabRect k).shape.Idx → Elt Ideal e := View.readAt (Elt Ideal) v (slabRect k).toLoadRect f

/-- A slab of the scratch array, at an entry. -/
theorem slabOf_at {e : EltTy} (v : View sig Kind.tc Space.vmem S8x8x12500 e) (f : v.ty.Contents (Elt Ideal)) (k r : Fin 8) (n : Fin 12500) :
    slabOf v f k (ix3 (0 : Fin 1) r n) = v.read (Elt Ideal) f (ix3 k r n) := by
  show v.read (Elt Ideal) f _ = v.read (Elt Ideal) f _
  congr 1
  funext a
  apply Fin.ext
  fin_cases a
  · show k.val + 1 * 0 = k.val; omega
  · show 0 + 1 * r.val = r.val; omega
  · show 0 + 1 * n.val = n.val; omega

/-- The columns whose head is taken. -/
def taken (v0 : View sig Kind.tc Space.vmem S8x8x12500 .f32) (v1 : View sig Kind.tc Space.vmem S8x8x12500 .i32)
    (f0 : v0.ty.Contents (Elt Ideal)) (f1 : v1.ty.Contents (Elt Ideal)) : IVec S8x12500 1 := k0_pay9 (slabOf v0 f0 0) (slabOf v1 f1 0)

/-- What a trip stores: of the values, of the places. -/
def shiftValues (v : View sig Kind.tc Space.vmem S8x8x12500 .f32) (f : v.ty.Contents (Elt Ideal)) (g : IVec S8x12500 1) :
    List (View.Piece (Elt Ideal) S8x8x12500 .f32) :=
  [⟨slabRect 7, pick g (broadcast S8x12500 (Ideal.ofBits .f32 0xBF800000#32)) (flat (slabOf v f 7))⟩,
    ⟨slabRect 6, pick g (flat (slabOf v f 7)) (flat (slabOf v f 6))⟩, ⟨slabRect 5, pick g (flat (slabOf v f 6)) (flat (slabOf v f 5))⟩,
    ⟨slabRect 4, pick g (flat (slabOf v f 5)) (flat (slabOf v f 4))⟩, ⟨slabRect 3, pick g (flat (slabOf v f 4)) (flat (slabOf v f 3))⟩,
    ⟨slabRect 2, pick g (flat (slabOf v f 3)) (flat (slabOf v f 2))⟩, ⟨slabRect 1, pick g (flat (slabOf v f 2)) (flat (slabOf v f 1))⟩,
    ⟨slabRect 0, pick g (flat (slabOf v f 1)) (flat (slabOf v f 0))⟩]
/-- The positions after a trip: the columns that were hit moved up by one slab. -/
def shiftPlaces (v : View sig Kind.tc Space.vmem S8x8x12500 .i32) (f : v.ty.Contents (Elt Ideal)) (g : IVec S8x12500 1) :
    List (View.Piece (Elt Ideal) S8x8x12500 .i32) :=
  [⟨slabRect 6, pickI g (flatI (slabOf v f 7)) (flatI (slabOf v f 6))⟩, ⟨slabRect 5, pickI g (flatI (slabOf v f 6)) (flatI (slabOf v f 5))⟩,
    ⟨slabRect 4, pickI g (flatI (slabOf v f 5)) (flatI (slabOf v f 4))⟩, ⟨slabRect 3, pickI g (flatI (slabOf v f 4)) (flatI (slabOf v f 3))⟩,
    ⟨slabRect 2, pickI g (flatI (slabOf v f 3)) (flatI (slabOf v f 2))⟩, ⟨slabRect 1, pickI g (flatI (slabOf v f 2)) (flatI (slabOf v f 1))⟩,
    ⟨slabRect 0, pickI g (flatI (slabOf v f 1)) (flatI (slabOf v f 0))⟩]

/-- The greatest value that a trip finds in a row. -/
theorem pay4_at (a : Vec Ideal S1x8x12500 .f32) (r : Fin 8) : k0_pay4 a (ix2 r 0) = most fun n : Fin 12500 => a (ix3 0 r n) := by
  pointwise [k0_pay4, k0_pay2]
  rfl

/-- The greatest position with that value. -/
theorem pay5_at (a : Vec Ideal S1x8x12500 .f32) (b : Vec Ideal S1x8x12500 .i32) (r : Fin 8) : k0_pay5 a b (ix2 r 0)
      = mostWord fun n : Fin 12500 => if a (ix3 0 r n) = (most fun n : Fin 12500 => a (ix3 0 r n)) then b (ix3 0 r n) else 4294967295#32 := by
  pointwise [k0_pay5, k0_pay4, k0_pay3, k0_pay2]
  rfl

/-- The comparison of words for equality. -/
theorem cmpi_eq_iff {w : ℕ} (x y : BitVec w) : IntOp.cmpi .eq x y = 1#1 ↔ x = y := by
  by_cases h : x = y
  · subst h
    simp [IntOp.cmpi]
  · have hb : (x == y) = false := beq_eq_false_iff_ne.mpr h
    refine iff_of_false (fun hc => ?_) h
    unfold IntOp.cmpi at hc
    dsimp only at hc
    rw [hb] at hc
    exact absurd hc (by decide)

/-- Which column of a row a trip hits. -/
theorem pay9_at (a : Vec Ideal S1x8x12500 .f32) (b : Vec Ideal S1x8x12500 .i32) (r : Fin 8) (n : Fin 12500) :
    (k0_pay9 a b (ix2 r n) = 1#1) ↔ b (ix3 0 r n) = k0_pay5 a b (ix2 r 0) := by
  pointwise [k0_pay9, k0_pay3]
  exact cmpi_eq_iff _ _

/-- The eight cases of a shift. -/
theorem shift_cases {A : Type} (g : Prop) [Decidable g] (X : Fin 8 → A) (u y : A) (c : Fin 8) :
    (if c = 7 then (if g then u else X 7) else if c = 6 then (if g then X 7 else X 6) else if c = 5 then (if g then X 6 else X 5)
      else if c = 4 then (if g then X 5 else X 4) else if c = 3 then (if g then X 4 else X 3) else if c = 2 then (if g then X 3 else X 2)
      else if c = 1 then (if g then X 2 else X 1) else if c = 0 then (if g then X 1 else X 0) else y)
      = if g then (if h : c.val + 1 < 8 then X ⟨c.val + 1, h⟩ else u) else X c := by
  fin_cases c <;> rfl

/-- What the buffers hold at a row after a trip, against before it. -/
theorem shift_extracts (v0 : View sig Kind.tc Space.vmem S8x8x12500 .f32) (v1 : View sig Kind.tc Space.vmem S8x8x12500 .i32)
    (f0 : v0.ty.Contents (Elt Ideal)) (f1 : v1.ty.Contents (Elt Ideal)) (r : Fin 8)
    (hw : ∀ n, 0 ≤ (v1.read (Elt Ideal) f1 (ix3 0 r n) : BitVec 32).toInt) :
    Extracts (C := 12500) (Ideal.ofBits .f32 0xBF800000#32) (fun c n => v0.read (Elt Ideal) f0 (ix3 c r n))
      (fun c n => v0.read (Elt Ideal) (v0.writes (Elt Ideal) f0 (shiftValues v0 f0 (taken v0 v1 f0 f1))) (ix3 c r n))
      (fun c n => v1.read (Elt Ideal) f1 (ix3 c r n))
      (fun c n => v1.read (Elt Ideal) (v1.writes (Elt Ideal) f1 (shiftPlaces v1 f1 (taken v0 v1 f0 f1))) (ix3 c r n))
      (k0_pay4 (slabOf v0 f0 0) (ix2 r 0)) (k0_pay5 (slabOf v0 f0 0) (slabOf v1 f1 0) (ix2 r 0)) := by
  have hm : k0_pay4 (slabOf v0 f0 0) (ix2 r 0) = most fun n : Fin 12500 => v0.read (Elt Ideal) f0 (ix3 0 r n) :=
    (pay4_at _ r).trans (by simp only [slabOf_at])
  have hq : k0_pay5 (slabOf v0 f0 0) (slabOf v1 f1 0) (ix2 r 0) = mostWord fun n : Fin 12500 =>
      if v0.read (Elt Ideal) f0 (ix3 0 r n) = (most fun n : Fin 12500 => v0.read (Elt Ideal) f0 (ix3 0 r n)) then
        v1.read (Elt Ideal) f1 (ix3 0 r n) else 4294967295#32 :=
    (pay5_at _ _ r).trans (by simp only [slabOf_at])
  have hg : ∀ n, (taken v0 v1 f0 f1 (ix2 r n) = 1#1) ↔
      v1.read (Elt Ideal) f1 (ix3 0 r n) = k0_pay5 (slabOf v0 f0 0) (slabOf v1 f1 0) (ix2 r 0) := fun n => by
    have := pay9_at (slabOf v0 f0 0) (slabOf v1 f1 0) r n
    rw [slabOf_at] at this
    exact this
  have hh := head_word (by norm_num) (fun n : Fin 12500 => v0.read (Elt Ideal) f0 (ix3 0 r n)) (fun n => v1.read (Elt Ideal) f1 (ix3 0 r n)) hw
  have hX : ∀ c n, v0.read (Elt Ideal) (v0.writes (Elt Ideal) f0 (shiftValues v0 f0 (taken v0 v1 f0 f1))) (ix3 c r n)
      = if taken v0 v1 f0 f1 (ix2 r n) = 1#1 then
          (if h : c.val + 1 < 8 then v0.read (Elt Ideal) f0 (ix3 ⟨c.val + 1, h⟩ r n) else Ideal.ofBits .f32 0xBF800000#32)
        else v0.read (Elt Ideal) f0 (ix3 c r n) := by
    intro c n
    unfold shiftValues
    simp only [read_store, pick_at, flat_at, slabOf_at]
    exact shift_cases (taken v0 v1 f0 f1 (ix2 r n) = 1#1) (fun k => v0.read (Elt Ideal) f0 (ix3 k r n)) _ _ c
  have hW : ∀ c n, v1.read (Elt Ideal) (v1.writes (Elt Ideal) f1 (shiftPlaces v1 f1 (taken v0 v1 f0 f1))) (ix3 c r n)
      = if taken v0 v1 f0 f1 (ix2 r n) = 1#1 then
          (if h : c.val + 1 < 8 then v1.read (Elt Ideal) f1 (ix3 ⟨c.val + 1, h⟩ r n) else v1.read (Elt Ideal) f1 (ix3 c r n))
        else v1.read (Elt Ideal) f1 (ix3 c r n) := by
    intro c n
    unfold shiftPlaces
    simp only [read_store, pickI_at, flatI_at, slabOf_at, View.writes_nil]
    refine (?_ : _ = _).trans (shift_cases (taken v0 v1 f0 f1 (ix2 r n) = 1#1) (fun k => v1.read (Elt Ideal) f1 (ix3 k r n))
      (v1.read (Elt Ideal) f1 (ix3 c r n)) (v1.read (Elt Ideal) f1 (ix3 c r n)) c)
    by_cases h : c = 7
    · subst h
      simp only [ite_self]
      rfl
    · rw [if_neg h]
  refine ⟨?_, ?_, ?_, ?_, ?_, ?_, ?_⟩
  · intro n
    rw [hm]
    exact le_most (fun n : Fin 12500 => v0.read (Elt Ideal) f0 (ix3 0 r n)) n
  · intro n h
    rw [hm] at h
    rw [hq]
    exact hh.1 n h
  · obtain ⟨n, h, h'⟩ := hh.2
    exact ⟨n, h.trans hm.symm, h'.trans hq.symm⟩
  · intro c n h hn
    have hn' := (hg n).mpr hn
    simp only [hX, hW, if_pos hn', dif_pos h, and_self]
  · intro n hn
    have hn' := (hg n).mpr hn
    simp only [hX, if_pos hn']
    rfl
  · intro n
    simp only [hW]
    split <;> rfl
  · intro c n hn
    have hn' := mt (hg n).mp hn
    simp only [hX, hW, if_neg hn', and_self]

section
variable (d : Dev nD) (i : grid0.Coords) (arg1 : Memref sig .tc .vmem S8x100000 .f32) (harg1 : arg1.IsWhole)
  (arg2 : Memref sig .tc .vmem S8x8x12500 .f32) (harg2 : arg2.IsWhole) (arg3 : Memref sig .tc .vmem S8x1 .f32) (harg3 : arg3.IsWhole)
  (arg4 : Memref sig .tc .vmem S8x64 .f32) (harg4 : arg4.IsWhole) (arg5 : Memref sig .tc .vmem S8x1 .i32) (harg5 : arg5.IsWhole)
  (arg6 : Memref sig .tc .vmem S8x1 .f32) (harg6 : arg6.IsWhole) (arg7 : Memref sig .tc .vmem S8x1 .f32) (harg7 : arg7.IsWhole)
  (arg8 : Memref sig .tc .vmem S8x100000 .f32) (harg8 : arg8.IsWhole) (arg9 : Memref sig .tc .vmem S8x1 .i32) (harg9 : arg9.IsWhole)
  (arg10 : Memref sig .tc .vmem S8x8x12500 .f32) (harg10 : arg10.IsWhole) (arg11 : Memref sig .tc .vmem S8x8x12500 .i32) (harg11 : arg11.IsWhole)
  (v693 : FVec Ideal S8x12500 .f32) (v694 : Vec Ideal S1x8x12500 .f32) (v721 : IVec S8x64 32)

/-- The values that a trip leaves. -/
theorem trip_values (k : Fin k0_t1_loop.trips) (acc : FVec Ideal S8x64 .f32 × IVec S8x64 32) (f0 : BufTy.Contents (Elt Ideal) arg10.view.ty)
    (f1 : BufTy.Contents (Elt Ideal) arg11.view.ty) :
    (trip_k0_t1 (F := Ideal) Variants.none d none i arg1 harg1 arg2 harg2 arg3 harg3 arg4 harg4 arg5 harg5 arg6 harg6 arg7 harg7 arg8 harg8 arg9
      harg9 arg10 harg10 arg11 harg11 v693 v694 v721 k).2.1 acc f0 f1 = shiftValues arg10.view f0 (taken arg10.view arg11.view f0 f1) := by
  unfold trip_k0_t1
  rfl

/-- The positions that a trip leaves. -/
theorem trip_places (k : Fin k0_t1_loop.trips) (acc : FVec Ideal S8x64 .f32 × IVec S8x64 32) (f0 : BufTy.Contents (Elt Ideal) arg10.view.ty)
    (f1 : BufTy.Contents (Elt Ideal) arg11.view.ty) :
    (trip_k0_t1 (F := Ideal) Variants.none d none i arg1 harg1 arg2 harg2 arg3 harg3 arg4 harg4 arg5 harg5 arg6 harg6 arg7 harg7 arg8 harg8 arg9
      harg9 arg10 harg10 arg11 harg11 v693 v694 v721 k).2.2.1 acc f0 f1 = shiftPlaces arg11.view f1 (taken arg10.view arg11.view f0 f1) := by
  unfold trip_k0_t1
  rfl

/-- What a trip carries on. -/
theorem trip_result (k : Fin k0_t1_loop.trips) (acc : FVec Ideal S8x64 .f32 × IVec S8x64 32) (f0 : BufTy.Contents (Elt Ideal) arg10.view.ty)
    (f1 : BufTy.Contents (Elt Ideal) arg11.view.ty) :
    (trip_k0_t1 (F := Ideal) Variants.none d none i arg1 harg1 arg2 harg2 arg3 harg3 arg4 harg4 arg5 harg5 arg6 harg6 arg7 harg7 arg8 harg8 arg9
      harg9 arg10 harg10 arg11 harg11 v693 v694 v721 k).1 acc f0 f1
      = (k0_pay7 v721 0#32 1#32 k acc.1 (slabOf arg10.view f0 0), k0_pay8 v721 0#32 1#32 k acc.2 (slabOf arg10.view f0 0) (slabOf arg11.view f1 0)) := by
  unfold trip_k0_t1
  rfl

end

end Cert.Sampler

end
-- ==== Proof.K.Loop.lean ====
/- The selection loop: what its 64 trips put into the two carried rows. -/
module

public import proofs.«01_k».proof.Proof.K.Trip
public import Idealize.ShloMosaic.Lib.Writes

@[expose] public section

set_option maxRecDepth 16384

noncomputable section

namespace Cert.Sampler

open Idealize.ShloMosaic Idealize.ShloMosaic.SortNet Cert.KernelIdeal Cert.KernelIdeal.Gen

/-- A trip keeps the positions from being negative. -/
theorem Extracts.nonneg {C : ℕ} {u : EReal} {X X' : Fin 8 → Fin C → EReal} {W W' : Fin 8 → Fin C → BitVec 32} {m : EReal} {w : BitVec 32}
    (S : Extracts u X X' W W' m w) (h : ∀ c n, 0 ≤ (W c n).toInt) (c : Fin 8) (n : Fin C) : 0 ≤ (W' c n).toInt := by
  by_cases hn : W 0 n = w
  · by_cases hc : c.val + 1 < 8
    · rw [(S.shift c n hc hn).2]
      exact h _ n
    · have : c = 7 := Fin.ext (by show c.val = 7; omega)
      rw [this, S.last_place]
      exact h 7 n
  · rw [(S.keep c n hn).2]
    exact h c n

/-- The values carried by the loop, at an entry. -/
theorem pay7_at (y : IVec S8x64 32) (k : Fin k0_t1_loop.trips) (q : FVec Ideal S8x64 .f32) (a : Vec Ideal S1x8x12500 .f32) (r : Fin 8) (j : Fin 64) :
    k0_pay7 y 0#32 1#32 k q a (ix2 r j) = if y (ix2 r j) = Scf.iv 0#32 1#32 k.val then k0_pay4 a (ix2 r 0) else q (ix2 r j) := by
  pointwise [k0_pay7, k0_pay6]
  exact if_congr (cmpi_eq_iff _ _) rfl rfl

/-- The positions carried by the loop, at an entry. -/
theorem pay8_at (y : IVec S8x64 32) (k : Fin k0_t1_loop.trips) (q : IVec S8x64 32) (a : Vec Ideal S1x8x12500 .f32) (b : Vec Ideal S1x8x12500 .i32)
    (r : Fin 8) (j : Fin 64) :
    k0_pay8 y 0#32 1#32 k q a b (ix2 r j) = if y (ix2 r j) = Scf.iv 0#32 1#32 k.val then k0_pay5 a b (ix2 r 0) else q (ix2 r j) := by
  pointwise [k0_pay8, k0_pay6]
  exact if_congr (cmpi_eq_iff _ _) rfl rfl

/-- The loop has 64 trips. -/
theorem trips_eq : k0_t1_loop.trips = 64 := by decide

section
variable (d : Dev nD) (i : grid0.Coords) (arg1 : Memref sig .tc .vmem S8x100000 .f32) (harg1 : arg1.IsWhole)
  (arg2 : Memref sig .tc .vmem S8x8x12500 .f32) (harg2 : arg2.IsWhole) (arg3 : Memref sig .tc .vmem S8x1 .f32) (harg3 : arg3.IsWhole)
  (arg4 : Memref sig .tc .vmem S8x64 .f32) (harg4 : arg4.IsWhole) (arg5 : Memref sig .tc .vmem S8x1 .i32) (harg5 : arg5.IsWhole)
  (arg6 : Memref sig .tc .vmem S8x1 .f32) (harg6 : arg6.IsWhole) (arg7 : Memref sig .tc .vmem S8x1 .f32) (harg7 : arg7.IsWhole)
  (arg8 : Memref sig .tc .vmem S8x100000 .f32) (harg8 : arg8.IsWhole) (arg9 : Memref sig .tc .vmem S8x1 .i32) (harg9 : arg9.IsWhole)
  (arg10 : Memref sig .tc .vmem S8x8x12500 .f32) (harg10 : arg10.IsWhole) (arg11 : Memref sig .tc .vmem S8x8x12500 .i32) (harg11 : arg11.IsWhole)
  (v693 : FVec Ideal S8x12500 .f32) (v694 : Vec Ideal S1x8x12500 .f32) (v721 : IVec S8x64 32)

variable (G0 : BufTy.Contents (Elt Ideal) arg10.view.ty) (G1 : BufTy.Contents (Elt Ideal) arg11.view.ty)
  (init : FVec Ideal S8x64 .f32 × IVec S8x64 32)

/-- The loop's state before trip `t`. -/
def state (t : ℕ) := st_k0_t1 (F := Ideal) Variants.none d none i arg1 harg1 arg2 harg2 arg3 harg3 arg4 harg4 arg5 harg5 arg6 harg6 arg7 harg7 arg8 harg8 arg9 harg9 arg10 harg10 arg11 harg11 v693 v694 v721 G0 G1 init t

/-- The two buffers' contents before trip `t`. -/
def held0 (t : ℕ) : BufTy.Contents (Elt Ideal) arg10.view.ty :=
  arg10.view.writes (Elt Ideal) G0 (state d i arg1 harg1 arg2 harg2 arg3 harg3 arg4 harg4 arg5 harg5 arg6 harg6 arg7 harg7 arg8 harg8 arg9 harg9 arg10 harg10 arg11 harg11 v693 v694 v721 G0 G1 init t).2.1
/-- The positions in the scratch array after `t` trips. -/
def held1 (t : ℕ) : BufTy.Contents (Elt Ideal) arg11.view.ty :=
  arg11.view.writes (Elt Ideal) G1 (state d i arg1 harg1 arg2 harg2 arg3 harg3 arg4 harg4 arg5 harg5 arg6 harg6 arg7 harg7 arg8 harg8 arg9 harg9 arg10 harg10 arg11 harg11 v693 v694 v721 G0 G1 init t).2.2

/-- What trip `t` takes at row `r`: the value, its place. -/
def gotValue (r : Fin 8) (t : ℕ) : EReal := k0_pay4 (slabOf arg10.view (held0 d i arg1 harg1 arg2 harg2 arg3 harg3 arg4 harg4 arg5 harg5 arg6 harg6 arg7 harg7 arg8 harg8 arg9 harg9 arg10 harg10 arg11 harg11 v693 v694 v721 G0 G1 init t) 0) (ix2 r 0)
/-- The position that trip `t` takes out of a row. -/
def gotPlace (r : Fin 8) (t : ℕ) : BitVec 32 :=
  k0_pay5 (slabOf arg10.view (held0 d i arg1 harg1 arg2 harg2 arg3 harg3 arg4 harg4 arg5 harg5 arg6 harg6 arg7 harg7 arg8 harg8 arg9 harg9 arg10 harg10 arg11 harg11 v693 v694 v721 G0 G1 init t) 0) (slabOf arg11.view (held1 d i arg1 harg1 arg2 harg2 arg3 harg3 arg4 harg4 arg5 harg5 arg6 harg6 arg7 harg7 arg8 harg8 arg9 harg9 arg10 harg10 arg11 harg11 v693 v694 v721 G0 G1 init t) 0) (ix2 r 0)

/-- One trip further. -/
theorem state_succ (k : Fin k0_t1_loop.trips) : state d i arg1 harg1 arg2 harg2 arg3 harg3 arg4 harg4 arg5 harg5 arg6 harg6 arg7 harg7 arg8 harg8 arg9 harg9 arg10 harg10 arg11 harg11 v693 v694 v721 G0 G1 init (k.val + 1) =
    ((k0_pay7 v721 0#32 1#32 k (state d i arg1 harg1 arg2 harg2 arg3 harg3 arg4 harg4 arg5 harg5 arg6 harg6 arg7 harg7 arg8 harg8 arg9 harg9 arg10 harg10 arg11 harg11 v693 v694 v721 G0 G1 init k.val).1.1 (slabOf arg10.view (held0 d i arg1 harg1 arg2 harg2 arg3 harg3 arg4 harg4 arg5 harg5 arg6 harg6 arg7 harg7 arg8 harg8 arg9 harg9 arg10 harg10 arg11 harg11 v693 v694 v721 G0 G1 init k.val) 0),
      k0_pay8 v721 0#32 1#32 k (state d i arg1 harg1 arg2 harg2 arg3 harg3 arg4 harg4 arg5 harg5 arg6 harg6 arg7 harg7 arg8 harg8 arg9 harg9 arg10 harg10 arg11 harg11 v693 v694 v721 G0 G1 init k.val).1.2 (slabOf arg10.view (held0 d i arg1 harg1 arg2 harg2 arg3 harg3 arg4 harg4 arg5 harg5 arg6 harg6 arg7 harg7 arg8 harg8 arg9 harg9 arg10 harg10 arg11 harg11 v693 v694 v721 G0 G1 init k.val) 0) (slabOf arg11.view (held1 d i arg1 harg1 arg2 harg2 arg3 harg3 arg4 harg4 arg5 harg5 arg6 harg6 arg7 harg7 arg8 harg8 arg9 harg9 arg10 harg10 arg11 harg11 v693 v694 v721 G0 G1 init k.val) 0)),
      shiftValues arg10.view (held0 d i arg1 harg1 arg2 harg2 arg3 harg3 arg4 harg4 arg5 harg5 arg6 harg6 arg7 harg7 arg8 harg8 arg9 harg9 arg10 harg10 arg11 harg11 v693 v694 v721 G0 G1 init k.val) (taken arg10.view arg11.view (held0 d i arg1 harg1 arg2 harg2 arg3 harg3 arg4 harg4 arg5 harg5 arg6 harg6 arg7 harg7 arg8 harg8 arg9 harg9 arg10 harg10 arg11 harg11 v693 v694 v721 G0 G1 init k.val) (held1 d i arg1 harg1 arg2 harg2 arg3 harg3 arg4 harg4 arg5 harg5 arg6 harg6 arg7 harg7 arg8 harg8 arg9 harg9 arg10 harg10 arg11 harg11 v693 v694 v721 G0 G1 init k.val)) ++ (state d i arg1 harg1 arg2 harg2 arg3 harg3 arg4 harg4 arg5 harg5 arg6 harg6 arg7 harg7 arg8 harg8 arg9 harg9 arg10 harg10 arg11 harg11 v693 v694 v721 G0 G1 init k.val).2.1,
      shiftPlaces arg11.view (held1 d i arg1 harg1 arg2 harg2 arg3 harg3 arg4 harg4 arg5 harg5 arg6 harg6 arg7 harg7 arg8 harg8 arg9 harg9 arg10 harg10 arg11 harg11 v693 v694 v721 G0 G1 init k.val) (taken arg10.view arg11.view (held0 d i arg1 harg1 arg2 harg2 arg3 harg3 arg4 harg4 arg5 harg5 arg6 harg6 arg7 harg7 arg8 harg8 arg9 harg9 arg10 harg10 arg11 harg11 v693 v694 v721 G0 G1 init k.val) (held1 d i arg1 harg1 arg2 harg2 arg3 harg3 arg4 harg4 arg5 harg5 arg6 harg6 arg7 harg7 arg8 harg8 arg9 harg9 arg10 harg10 arg11 harg11 v693 v694 v721 G0 G1 init k.val)) ++ (state d i arg1 harg1 arg2 harg2 arg3 harg3 arg4 harg4 arg5 harg5 arg6 harg6 arg7 harg7 arg8 harg8 arg9 harg9 arg10 harg10 arg11 harg11 v693 v694 v721 G0 G1 init k.val).2.2) := by
  refine (st_k0_t1_succ (F := Ideal) Variants.none d none i arg1 harg1 arg2 harg2 arg3 harg3 arg4 harg4 arg5 harg5 arg6 harg6 arg7 harg7 arg8 harg8 arg9 harg9 arg10 harg10 arg11 harg11 v693 v694 v721 G0 G1 init k).trans ?_
  unfold tripR_k0_t1 tripL_k0_t1
  rw [trip_values, trip_places, trip_result]
  rfl

/-- The values in the scratch array one trip further. -/
theorem held0_succ (k : Fin k0_t1_loop.trips) : held0 d i arg1 harg1 arg2 harg2 arg3 harg3 arg4 harg4 arg5 harg5 arg6 harg6 arg7 harg7 arg8 harg8 arg9 harg9 arg10 harg10 arg11 harg11 v693 v694 v721 G0 G1 init (k.val + 1) = arg10.view.writes (Elt Ideal) (held0 d i arg1 harg1 arg2 harg2 arg3 harg3 arg4 harg4 arg5 harg5 arg6 harg6 arg7 harg7 arg8 harg8 arg9 harg9 arg10 harg10 arg11 harg11 v693 v694 v721 G0 G1 init k.val)
    (shiftValues arg10.view (held0 d i arg1 harg1 arg2 harg2 arg3 harg3 arg4 harg4 arg5 harg5 arg6 harg6 arg7 harg7 arg8 harg8 arg9 harg9 arg10 harg10 arg11 harg11 v693 v694 v721 G0 G1 init k.val) (taken arg10.view arg11.view (held0 d i arg1 harg1 arg2 harg2 arg3 harg3 arg4 harg4 arg5 harg5 arg6 harg6 arg7 harg7 arg8 harg8 arg9 harg9 arg10 harg10 arg11 harg11 v693 v694 v721 G0 G1 init k.val) (held1 d i arg1 harg1 arg2 harg2 arg3 harg3 arg4 harg4 arg5 harg5 arg6 harg6 arg7 harg7 arg8 harg8 arg9 harg9 arg10 harg10 arg11 harg11 v693 v694 v721 G0 G1 init k.val))) := by
  conv_lhs => unfold held0
  rw [state_succ, View.writes_append]
  rfl

/-- The positions in the scratch array one trip further. -/
theorem held1_succ (k : Fin k0_t1_loop.trips) : held1 d i arg1 harg1 arg2 harg2 arg3 harg3 arg4 harg4 arg5 harg5 arg6 harg6 arg7 harg7 arg8 harg8 arg9 harg9 arg10 harg10 arg11 harg11 v693 v694 v721 G0 G1 init (k.val + 1) = arg11.view.writes (Elt Ideal) (held1 d i arg1 harg1 arg2 harg2 arg3 harg3 arg4 harg4 arg5 harg5 arg6 harg6 arg7 harg7 arg8 harg8 arg9 harg9 arg10 harg10 arg11 harg11 v693 v694 v721 G0 G1 init k.val)
    (shiftPlaces arg11.view (held1 d i arg1 harg1 arg2 harg2 arg3 harg3 arg4 harg4 arg5 harg5 arg6 harg6 arg7 harg7 arg8 harg8 arg9 harg9 arg10 harg10 arg11 harg11 v693 v694 v721 G0 G1 init k.val) (taken arg10.view arg11.view (held0 d i arg1 harg1 arg2 harg2 arg3 harg3 arg4 harg4 arg5 harg5 arg6 harg6 arg7 harg7 arg8 harg8 arg9 harg9 arg10 harg10 arg11 harg11 v693 v694 v721 G0 G1 init k.val) (held1 d i arg1 harg1 arg2 harg2 arg3 harg3 arg4 harg4 arg5 harg5 arg6 harg6 arg7 harg7 arg8 harg8 arg9 harg9 arg10 harg10 arg11 harg11 v693 v694 v721 G0 G1 init k.val))) := by
  conv_lhs => unfold held1
  rw [state_succ, View.writes_append]
  rfl

/-- The values and the places of row `r` before trip `t`. -/
def rowValues (r : Fin 8) (t : ℕ) (c : Fin 8) (n : Fin 12500) : EReal := arg10.view.read (Elt Ideal) (held0 d i arg1 harg1 arg2 harg2 arg3 harg3 arg4 harg4 arg5 harg5 arg6 harg6 arg7 harg7 arg8 harg8 arg9 harg9 arg10 harg10 arg11 harg11 v693 v694 v721 G0 G1 init t) (ix3 c r n)
/-- The positions of a row after `t` trips, by slab and column. -/
def rowPlaces (r : Fin 8) (t : ℕ) (c : Fin 8) (n : Fin 12500) : BitVec 32 := arg11.view.read (Elt Ideal) (held1 d i arg1 harg1 arg2 harg2 arg3 harg3 arg4 harg4 arg5 harg5 arg6 harg6 arg7 harg7 arg8 harg8 arg9 harg9 arg10 harg10 arg11 harg11 v693 v694 v721 G0 G1 init t) (ix3 c r n)

/-- The values of a row ahead of the loop. -/
theorem rowValues_zero (r c : Fin 8) (n : Fin 12500) : rowValues d i arg1 harg1 arg2 harg2 arg3 harg3 arg4 harg4 arg5 harg5 arg6 harg6 arg7 harg7 arg8 harg8 arg9 harg9 arg10 harg10 arg11 harg11 v693 v694 v721 G0 G1 init r 0 c n = arg10.view.read (Elt Ideal) G0 (ix3 c r n) := by
  unfold rowValues held0 state
  rw [st_k0_t1.eq_1]
  rfl

/-- The positions of a row ahead of the loop. -/
theorem rowPlaces_zero (r c : Fin 8) (n : Fin 12500) : rowPlaces d i arg1 harg1 arg2 harg2 arg3 harg3 arg4 harg4 arg5 harg5 arg6 harg6 arg7 harg7 arg8 harg8 arg9 harg9 arg10 harg10 arg11 harg11 v693 v694 v721 G0 G1 init r 0 c n = arg11.view.read (Elt Ideal) G1 (ix3 c r n) := by
  unfold rowPlaces held1 state
  rw [st_k0_t1.eq_1]
  rfl

/-- Every trip takes out the greatest entry of each row. -/
theorem loop_step (r : Fin 8) (t : ℕ) (ht : t < 64) (h : ∀ c n, 0 ≤ (rowPlaces d i arg1 harg1 arg2 harg2 arg3 harg3 arg4 harg4 arg5 harg5 arg6 harg6 arg7 harg7 arg8 harg8 arg9 harg9 arg10 harg10 arg11 harg11 v693 v694 v721 G0 G1 init r t c n).toInt) :
    Extracts (Ideal.ofBits .f32 0xBF800000#32) (rowValues d i arg1 harg1 arg2 harg2 arg3 harg3 arg4 harg4 arg5 harg5 arg6 harg6 arg7 harg7 arg8 harg8 arg9 harg9 arg10 harg10 arg11 harg11 v693 v694 v721 G0 G1 init r t) (rowValues d i arg1 harg1 arg2 harg2 arg3 harg3 arg4 harg4 arg5 harg5 arg6 harg6 arg7 harg7 arg8 harg8 arg9 harg9 arg10 harg10 arg11 harg11 v693 v694 v721 G0 G1 init r (t + 1)) (rowPlaces d i arg1 harg1 arg2 harg2 arg3 harg3 arg4 harg4 arg5 harg5 arg6 harg6 arg7 harg7 arg8 harg8 arg9 harg9 arg10 harg10 arg11 harg11 v693 v694 v721 G0 G1 init r t) (rowPlaces d i arg1 harg1 arg2 harg2 arg3 harg3 arg4 harg4 arg5 harg5 arg6 harg6 arg7 harg7 arg8 harg8 arg9 harg9 arg10 harg10 arg11 harg11 v693 v694 v721 G0 G1 init r (t + 1))
      (gotValue d i arg1 harg1 arg2 harg2 arg3 harg3 arg4 harg4 arg5 harg5 arg6 harg6 arg7 harg7 arg8 harg8 arg9 harg9 arg10 harg10 arg11 harg11 v693 v694 v721 G0 G1 init r t) (gotPlace d i arg1 harg1 arg2 harg2 arg3 harg3 arg4 harg4 arg5 harg5 arg6 harg6 arg7 harg7 arg8 harg8 arg9 harg9 arg10 harg10 arg11 harg11 v693 v694 v721 G0 G1 init r t) := by
  have e0 := held0_succ d i arg1 harg1 arg2 harg2 arg3 harg3 arg4 harg4 arg5 harg5 arg6 harg6 arg7 harg7 arg8 harg8 arg9 harg9 arg10 harg10 arg11 harg11 v693 v694 v721 G0 G1 init ⟨t, ht.trans_eq trips_eq.symm⟩
  have e1 := held1_succ d i arg1 harg1 arg2 harg2 arg3 harg3 arg4 harg4 arg5 harg5 arg6 harg6 arg7 harg7 arg8 harg8 arg9 harg9 arg10 harg10 arg11 harg11 v693 v694 v721 G0 G1 init ⟨t, ht.trans_eq trips_eq.symm⟩
  have := shift_extracts arg10.view arg11.view (held0 d i arg1 harg1 arg2 harg2 arg3 harg3 arg4 harg4 arg5 harg5 arg6 harg6 arg7 harg7 arg8 harg8 arg9 harg9 arg10 harg10 arg11 harg11 v693 v694 v721 G0 G1 init t) (held1 d i arg1 harg1 arg2 harg2 arg3 harg3 arg4 harg4 arg5 harg5 arg6 harg6 arg7 harg7 arg8 harg8 arg9 harg9 arg10 harg10 arg11 harg11 v693 v694 v721 G0 G1 init t) r (h 0)
  rw [show rowValues d i arg1 harg1 arg2 harg2 arg3 harg3 arg4 harg4 arg5 harg5 arg6 harg6 arg7 harg7 arg8 harg8 arg9 harg9 arg10 harg10 arg11 harg11 v693 v694 v721 G0 G1 init r (t + 1) = fun c n => arg10.view.read (Elt Ideal) (held0 d i arg1 harg1 arg2 harg2 arg3 harg3 arg4 harg4 arg5 harg5 arg6 harg6 arg7 harg7 arg8 harg8 arg9 harg9 arg10 harg10 arg11 harg11 v693 v694 v721 G0 G1 init (t + 1)) (ix3 c r n) from rfl,
    show rowPlaces d i arg1 harg1 arg2 harg2 arg3 harg3 arg4 harg4 arg5 harg5 arg6 harg6 arg7 harg7 arg8 harg8 arg9 harg9 arg10 harg10 arg11 harg11 v693 v694 v721 G0 G1 init r (t + 1) = fun c n => arg11.view.read (Elt Ideal) (held1 d i arg1 harg1 arg2 harg2 arg3 harg3 arg4 harg4 arg5 harg5 arg6 harg6 arg7 harg7 arg8 harg8 arg9 harg9 arg10 harg10 arg11 harg11 v693 v694 v721 G0 G1 init (t + 1)) (ix3 c r n) from rfl]
  dsimp only at e0 e1
  rw [e0, e1]
  exact this

/-- No position in the scratch array is ever negative. -/
theorem places_nonneg (r : Fin 8) (h : ∀ c n, 0 ≤ (rowPlaces d i arg1 harg1 arg2 harg2 arg3 harg3 arg4 harg4 arg5 harg5 arg6 harg6 arg7 harg7 arg8 harg8 arg9 harg9 arg10 harg10 arg11 harg11 v693 v694 v721 G0 G1 init r 0 c n).toInt) :
    ∀ t ≤ 64, ∀ c n, 0 ≤ (rowPlaces d i arg1 harg1 arg2 harg2 arg3 harg3 arg4 harg4 arg5 harg5 arg6 harg6 arg7 harg7 arg8 harg8 arg9 harg9 arg10 harg10 arg11 harg11 v693 v694 v721 G0 G1 init r t c n).toInt
  | 0, _ => h
  | t + 1, ht => (loop_step d i arg1 harg1 arg2 harg2 arg3 harg3 arg4 harg4 arg5 harg5 arg6 harg6 arg7 harg7 arg8 harg8 arg9 harg9 arg10 harg10 arg11 harg11 v693 v694 v721 G0 G1 init r t (by omega) (places_nonneg r h t (by omega))).nonneg (places_nonneg r h t (by omega))

/-- Before trip `t` the carried rows hold what the trips before took. -/
theorem carried (hv : ∀ (r : Fin 8) (j : Fin 64), v721 (ix2 r j) = BitVec.ofNat 32 j.val) (r : Fin 8) (j : Fin 64) : ∀ t ≤ 64, j.val < t →
    (state d i arg1 harg1 arg2 harg2 arg3 harg3 arg4 harg4 arg5 harg5 arg6 harg6 arg7 harg7 arg8 harg8 arg9 harg9 arg10 harg10 arg11 harg11 v693 v694 v721 G0 G1 init t).1.1 (ix2 r j) = gotValue d i arg1 harg1 arg2 harg2 arg3 harg3 arg4 harg4 arg5 harg5 arg6 harg6 arg7 harg7 arg8 harg8 arg9 harg9 arg10 harg10 arg11 harg11 v693 v694 v721 G0 G1 init r j.val ∧ (state d i arg1 harg1 arg2 harg2 arg3 harg3 arg4 harg4 arg5 harg5 arg6 harg6 arg7 harg7 arg8 harg8 arg9 harg9 arg10 harg10 arg11 harg11 v693 v694 v721 G0 G1 init t).1.2 (ix2 r j) = gotPlace d i arg1 harg1 arg2 harg2 arg3 harg3 arg4 harg4 arg5 harg5 arg6 harg6 arg7 harg7 arg8 harg8 arg9 harg9 arg10 harg10 arg11 harg11 v693 v694 v721 G0 G1 init r j.val
  | 0, _, hj => absurd hj (by omega)
  | t + 1, ht, hj => by
    have e := state_succ d i arg1 harg1 arg2 harg2 arg3 harg3 arg4 harg4 arg5 harg5 arg6 harg6 arg7 harg7 arg8 harg8 arg9 harg9 arg10 harg10 arg11 harg11 v693 v694 v721 G0 G1 init ⟨t, (by omega : t < 64).trans_eq trips_eq.symm⟩
    dsimp only at e
    have hiff : (v721 (ix2 r j) = Scf.iv 0#32 1#32 t) ↔ j.val = t := by
      rw [hv]
      unfold Scf.iv
      constructor
      · intro h
        have := congrArg BitVec.toNat h
        simp at this
        omega
      · rintro h
        rw [h]
        simp
    rw [e]
    dsimp only
    rw [pay7_at, pay8_at]
    by_cases hjt : j.val = t
    · rw [if_pos (hiff.mpr hjt), if_pos (hiff.mpr hjt)]
      subst hjt
      exact ⟨rfl, rfl⟩
    · rw [if_neg (mt hiff.mp hjt), if_neg (mt hiff.mp hjt)]
      exact carried hv r j t (by omega) (by omega)

end

end Cert.Sampler

end
-- ==== Proof.K.Selected.lean ====
/- What the kernel selects in a block: the 64 first probabilities of each row in the reference's order, and their positions. -/
module

public import proofs.«01_k».proof.Proof.K.Loop

@[expose] public section

set_option maxRecDepth 16384

noncomputable section

namespace Cert.Sampler

open Idealize.ShloMosaic Idealize.ShloMosaic.SortNet Cert.KernelIdeal Cert.KernelIdeal.Gen

/-- The 64 candidates are among the entries. -/
theorem few : 64 ≤ 100000 := by norm_num

section
variable (d : Dev nD) (i : grid0.Coords) (arg1 : Memref sig .tc .vmem S8x100000 .f32) (harg1 : arg1.IsWhole)
  (arg2 : Memref sig .tc .vmem S8x8x12500 .f32) (harg2 : arg2.IsWhole) (arg3 : Memref sig .tc .vmem S8x1 .f32) (harg3 : arg3.IsWhole)
  (arg4 : Memref sig .tc .vmem S8x64 .f32) (harg4 : arg4.IsWhole) (arg5 : Memref sig .tc .vmem S8x1 .i32) (harg5 : arg5.IsWhole)
  (arg6 : Memref sig .tc .vmem S8x1 .f32) (harg6 : arg6.IsWhole) (arg7 : Memref sig .tc .vmem S8x1 .f32) (harg7 : arg7.IsWhole)
  (arg8 : Memref sig .tc .vmem S8x100000 .f32) (harg8 : arg8.IsWhole) (arg9 : Memref sig .tc .vmem S8x1 .i32) (harg9 : arg9.IsWhole)
  (arg10 : Memref sig .tc .vmem S8x8x12500 .f32) (harg10 : arg10.IsWhole) (arg11 : Memref sig .tc .vmem S8x8x12500 .i32) (harg11 : arg11.IsWhole)

  (x0 : Vec Ideal S8x100000 EltTy.f32) (x1 : Vec Ideal S8x8x12500 EltTy.f32) (x2 : Vec Ideal S8x1 EltTy.f32)
  (hx : ∀ (r c : Fin 8) (n : Fin 12500), x1 (ix3 r c n) = x0 (ix2 r (elem n c)))

include hx in
/-- After the exchanges every column holds its own eight elements, the greatest entry first. -/
theorem sorted_columns (r : Fin 8) : ∃ s : Fin 12500 → Fin 8 → Fin 100000,
    (∀ n n' c c', s n c = s n' c' → n = n' ∧ c = c') ∧ (∀ e, ∃ n c, s n c = e) ∧
    (∀ n c c', c ≤ c' → entry ((prob (fun i => x0 (ix2 r i)) (x2 (ix2 r 0))) (s n c')) (word (s n c')) ≤ entry ((prob (fun i => x0 (ix2 r i)) (x2 (ix2 r 0))) (s n c)) (word (s n c))) ∧
    (∀ c n, View.canon (kernelRun0_A.sl.HS0_46 d arg1 harg1 arg2 harg2 arg3 harg3 arg10 arg11 x0 x1 x2) (ix3 c r n) = (prob (fun i => x0 (ix2 r i)) (x2 (ix2 r 0))) (s n c)) ∧
    ∀ c n, View.canon (kernelRun0_A.sl.HS1_46 d arg1 harg1 arg2 harg2 arg3 harg3 arg10 arg11 x0 x1 x2) (ix3 c r n) = word (s n c) := by
  have hstart : ∀ n, column (kernelRun0_A.sl.HS0_8 d arg1 harg1 arg2 harg2 arg3 harg3 x0 x1 x2) kernelRun0_A.sl.HS1_8 r n
      = fun c => entry ((prob (fun i => x0 (ix2 r i)) (x2 (ix2 r 0))) (elem n c)) (word (elem n c)) := fun n => funext fun c => start_column d arg1 harg1 arg2 harg2 arg3 harg3 x0 x1 x2 hx r n c
  choose σ hσ using fun n => Network.exists_perm net fun c => entry ((prob (fun i => x0 (ix2 r i)) (x2 (ix2 r 0))) (elem n c)) (word (elem n c))
  have hcol : ∀ n c, column (kernelRun0_A.sl.HS0_46 d arg1 harg1 arg2 harg2 arg3 harg3 arg10 arg11 x0 x1 x2) (kernelRun0_A.sl.HS1_46 d arg1 harg1 arg2 harg2 arg3 harg3 arg10 arg11 x0 x1 x2) r n c
      = entry ((prob (fun i => x0 (ix2 r i)) (x2 (ix2 r 0))) (elem n (σ n c))) (word (elem n (σ n c))) := fun n c => by
    rw [columns_sorted, hstart, hσ]
    try rfl
  refine ⟨fun n c => elem n (σ n c), ?_, ?_, ?_, fun c n => (entry_inj (hcol n c)).1, fun c n => (entry_inj (hcol n c)).2⟩
  · intro n n' c c' h
    have h' : 8 * n.val + (σ n c).val = 8 * n'.val + (σ n' c').val := congrArg Fin.val h
    have hn : n = n' := Fin.ext (by omega)
    subst hn
    exact ⟨rfl, (σ n).injective (Fin.ext (by omega))⟩
  · intro e
    refine ⟨⟨e.val / 8, by omega⟩, (σ ⟨e.val / 8, by omega⟩).symm ⟨e.val % 8, by omega⟩, ?_⟩
    dsimp only
    rw [Equiv.apply_symm_apply]
    apply Fin.ext
    show 8 * (e.val / 8) + e.val % 8 = e.val
    omega
  · intro n c c' h
    have := net_antitone (fun c => entry ((prob (fun i => x0 (ix2 r i)) (x2 (ix2 r 0))) (elem n c)) (word (elem n c))) h
    rw [hσ] at this
    exact this

/-- The values at the loop's start are the sorted columns. -/
theorem value_start (r : Fin 8) (c : Fin 8) (n : Fin 12500) : rowValues d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r 0 c n = View.canon (kernelRun0_A.sl.HS0_46 d arg1 harg1 arg2 harg2 arg3 harg3 arg10 arg11 x0 x1 x2) (ix3 c r n) :=
  (rowValues_zero _ _ _ _ _ _ _ _ _ _ _ _ _ _ _ _ _ _ _ _ _ _ _ _ _ _ _ _ _ _ r c n).trans
    (View.read_writes_junk_apply_eq_canon arg10.view (ix3 c r n) _)

/-- The positions at the loop's start are those of the sorted columns. -/
theorem place_start (r : Fin 8) (c : Fin 8) (n : Fin 12500) : rowPlaces d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r 0 c n = View.canon (kernelRun0_A.sl.HS1_46 d arg1 harg1 arg2 harg2 arg3 harg3 arg10 arg11 x0 x1 x2) (ix3 c r n) :=
  (rowPlaces_zero _ _ _ _ _ _ _ _ _ _ _ _ _ _ _ _ _ _ _ _ _ _ _ _ _ _ _ _ _ _ r c n).trans
    (View.read_writes_junk_apply_eq_canon arg11.view (ix3 c r n) _)

/-- Every trip of the loop takes out the greatest entry left. -/
theorem step_at (r : Fin 8) {s : Fin 12500 → Fin 8 → Fin 100000}
    (hW : ∀ c n, View.canon (kernelRun0_A.sl.HS1_46 d arg1 harg1 arg2 harg2 arg3 harg3 arg10 arg11 x0 x1 x2) (ix3 c r n) = word (s n c)) (t : ℕ) (ht : t < 64) :
    Extracts (Ideal.ofBits .f32 0xBF800000#32) (rowValues d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r t) (rowValues d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r (t + 1)) (rowPlaces d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r t) (rowPlaces d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r (t + 1))
      (gotValue d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r t) (gotPlace d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r t) :=
  loop_step d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r t ht (places_nonneg d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r (fun c n => by
    rw [place_start, hW, word_toInt (by norm_num)]
    exact Int.natCast_nonneg _) t ht.le)

/-- The column numbers of the carried arrays. -/
theorem column_iota (r : Fin 8) (j : Fin 64) : kernelRun0_A.sl.v721 (ix2 r j) = BitVec.ofNat 32 j.val := by
  pointwise [kernelRun0_A.sl.v721]
  try rfl

/-- What the loop carries out at column `j` is what trip `j` took. -/
theorem carried_out (r : Fin 8) (j : Fin 64) :
    kernelRun0_A.sl.r_61 d i arg1 harg1 arg2 harg2 arg3 harg3 arg4 harg4 arg5 harg5 arg6 harg6 arg7 harg7 arg8 harg8 arg9 harg9 arg10 harg10 arg11 harg11 x0 x1 x2 (ix2 r j) = gotValue d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r j.val ∧
    kernelRun0_A.sl.r_62 d i arg1 harg1 arg2 harg2 arg3 harg3 arg4 harg4 arg5 harg5 arg6 harg6 arg7 harg7 arg8 harg8 arg9 harg9 arg10 harg10 arg11 harg11 x0 x1 x2 (ix2 r j) = gotPlace d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r j.val :=
  carried d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) column_iota r j 64 le_rfl j.isLt

include hx in
/-- A row with probabilities: the values and the positions taken are the first 64 in the order. -/
theorem selected (r : Fin 8) (hp : ∀ e, 0 ≤ (prob (fun i => x0 (ix2 r i)) (x2 (ix2 r 0))) e) (j : Fin 64) :
    kernelRun0_A.sl.r_61 d i arg1 harg1 arg2 harg2 arg3 harg3 arg4 harg4 arg5 harg5 arg6 harg6 arg7 harg7 arg8 harg8 arg9 harg9 arg10 harg10 arg11 harg11 x0 x1 x2 (ix2 r j) = (prob (fun i => x0 (ix2 r i)) (x2 (ix2 r 0))) (sortedFrom (before (prob (fun i => x0 (ix2 r i)) (x2 (ix2 r 0)))) (j.castLE few)) ∧
    kernelRun0_A.sl.r_62 d i arg1 harg1 arg2 harg2 arg3 harg3 arg4 harg4 arg5 harg5 arg6 harg6 arg7 harg7 arg8 harg8 arg9 harg9 arg10 harg10 arg11 harg11 x0 x1 x2 (ix2 r j) = word (sortedFrom (before (prob (fun i => x0 (ix2 r i)) (x2 (ix2 r 0)))) (j.castLE few)) := by
  obtain ⟨s, hs, hsur, hdesc, hX, hW⟩ := sorted_columns d arg1 harg1 arg2 harg2 arg3 harg3 arg10 arg11 x0 x1 x2 hx r
  have h := extract_all filler_neg (by norm_num) hp hs hsur hdesc (T := 64) (by norm_num) (rowValues d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r) (rowPlaces d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r) (gotValue d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r)
    (gotPlace d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r) (fun c n => (value_start d i arg1 harg1 arg2 harg2 arg3 harg3 arg4 harg4 arg5 harg5 arg6 harg6 arg7 harg7 arg8 harg8 arg9 harg9 arg10 harg10 arg11 harg11 x0 x1 x2 r c n).trans (hX c n))
    (fun c n => (place_start d i arg1 harg1 arg2 harg2 arg3 harg3 arg4 harg4 arg5 harg5 arg6 harg6 arg7 harg7 arg8 harg8 arg9 harg9 arg10 harg10 arg11 harg11 x0 x1 x2 r c n).trans (hW c n)) (step_at d i arg1 harg1 arg2 harg2 arg3 harg3 arg4 harg4 arg5 harg5 arg6 harg6 arg7 harg7 arg8 harg8 arg9 harg9 arg10 harg10 arg11 harg11 x0 x1 x2 r hW) j.val j.isLt
  have e := carried_out d i arg1 harg1 arg2 harg2 arg3 harg3 arg4 harg4 arg5 harg5 arg6 harg6 arg7 harg7 arg8 harg8 arg9 harg9 arg10 harg10 arg11 harg11 x0 x1 x2 r j
  exact ⟨e.1.trans h.1, e.2.trans h.2⟩

include hx in
/-- A row without: the first position taken is the first in the order, and no value taken is positive. -/
theorem selected_none (r : Fin 8) (hp : ∀ e, (prob (fun i => x0 (ix2 r i)) (x2 (ix2 r 0))) e = ⊥) :
    kernelRun0_A.sl.r_62 d i arg1 harg1 arg2 harg2 arg3 harg3 arg4 harg4 arg5 harg5 arg6 harg6 arg7 harg7 arg8 harg8 arg9 harg9 arg10 harg10 arg11 harg11 x0 x1 x2 (ix2 r 0) = word (sortedFrom (before (prob (fun i => x0 (ix2 r i)) (x2 (ix2 r 0)))) 0) ∧
    ∀ j, kernelRun0_A.sl.r_61 d i arg1 harg1 arg2 harg2 arg3 harg3 arg4 harg4 arg5 harg5 arg6 harg6 arg7 harg7 arg8 harg8 arg9 harg9 arg10 harg10 arg11 harg11 x0 x1 x2 (ix2 r j) ≤ 0 := by
  obtain ⟨s, hs, hsur, hdesc, hX, hW⟩ := sorted_columns d arg1 harg1 arg2 harg2 arg3 harg3 arg10 arg11 x0 x1 x2 hx r
  have h := extract_first (by norm_num) hs hsur hdesc (by norm_num) (rowValues d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r) (rowPlaces d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r) (gotValue d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r 0)
    (gotPlace d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r 0) (fun c n => (value_start d i arg1 harg1 arg2 harg2 arg3 harg3 arg4 harg4 arg5 harg5 arg6 harg6 arg7 harg7 arg8 harg8 arg9 harg9 arg10 harg10 arg11 harg11 x0 x1 x2 r c n).trans (hX c n))
    (fun c n => (place_start d i arg1 harg1 arg2 harg2 arg3 harg3 arg4 harg4 arg5 harg5 arg6 harg6 arg7 harg7 arg8 harg8 arg9 harg9 arg10 harg10 arg11 harg11 x0 x1 x2 r c n).trans (hW c n)) (step_at d i arg1 harg1 arg2 harg2 arg3 harg3 arg4 harg4 arg5 harg5 arg6 harg6 arg7 harg7 arg8 harg8 arg9 harg9 arg10 harg10 arg11 harg11 x0 x1 x2 r hW 0 (by norm_num))
  refine ⟨(carried_out d i arg1 harg1 arg2 harg2 arg3 harg3 arg4 harg4 arg5 harg5 arg6 harg6 arg7 harg7 arg8 harg8 arg9 harg9 arg10 harg10 arg11 harg11 x0 x1 x2 r 0).2.trans h.2, fun j => ?_⟩
  rw [(carried_out d i arg1 harg1 arg2 harg2 arg3 harg3 arg4 harg4 arg5 harg5 arg6 harg6 arg7 harg7 arg8 harg8 arg9 harg9 arg10 harg10 arg11 harg11 x0 x1 x2 r j).1]
  exact extract_nonpos filler_neg.le (T := 64) (rowValues d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r) (rowPlaces d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r) (gotValue d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r) (gotPlace d i arg1 harg1 arg2 harg2 arg3 harg3 arg4 harg4 arg5 harg5 arg6 harg6 arg7 harg7 arg8 harg8 arg9 harg9 arg10 harg10 arg11 harg11 (kernelRun0_A.sl.r_60 d arg1 harg1 arg2 harg2 arg3 harg3 arg10 arg11 x0 x1 x2) (kernelRun0_A.sl.v694 d arg1 harg1 arg2 harg2 arg3 harg3 arg10 arg11 x0 x1 x2) kernelRun0_A.sl.v721 (arg10.view.writes (Elt Ideal) arg10.view.junk (kernelRun0_A.sl.HS0_46 d arg1 harg1 arg2 harg2 arg3 harg3 arg10 arg11 x0 x1 x2)) (arg11.view.writes (Elt Ideal) arg11.view.junk (kernelRun0_A.sl.HS1_46 d arg1 harg1 arg2 harg2 arg3 harg3 arg10 arg11 x0 x1 x2)) (k0_pay235, k0_pay236) r)
    (fun c n => by rw [value_start, hX, hp]; exact bot_le) (step_at d i arg1 harg1 arg2 harg2 arg3 harg3 arg4 harg4 arg5 harg5 arg6 harg6 arg7 harg7 arg8 harg8 arg9 harg9 arg10 harg10 arg11 harg11 x0 x1 x2 r hW) j.val j.isLt

end

end Cert.Sampler

end
-- ==== Proof.K.Filter.lean ====
/- The filters and the choice the kernel makes on a row's 64 selected probabilities. -/
module

public import proofs.«01_k».proof.Proof.K.Trip

@[expose] public section

set_option maxRecDepth 16384

noncomputable section

namespace Cert.Sampler

open Idealize.ShloMosaic Idealize.ShloMosaic.SortNet Cert.KernelIdeal Cert.KernelIdeal.Gen

/-- The sum of the entries up to `j`. -/
def upTo {n : ℕ} (q : Fin n → EReal) (j : Fin n) : EReal := ∑ i ∈ Finset.univ.filter (fun i => i ≤ j), q i

/-- The sum of the last `w` of the entries up to `j`. -/
def lastUpTo {n : ℕ} (w : ℕ) (q : Fin n → EReal) (j : Fin n) : EReal :=
  ∑ i ∈ Finset.univ.filter (fun i : Fin n => i ≤ j ∧ j.val < i.val + w), q i

/-- The last one entry up to a place is the entry there. -/
theorem lastUpTo_one {n : ℕ} (q : Fin n → EReal) (j : Fin n) : lastUpTo 1 q j = q j := by
  unfold lastUpTo
  rw [show Finset.univ.filter (fun i : Fin n => i ≤ j ∧ j.val < i.val + 1) = {j} from ?_, Finset.sum_singleton]
  ext i
  simp only [Finset.mem_filter, Finset.mem_univ, true_and, Finset.mem_singleton, Fin.le_def, Fin.ext_iff]
  omega

/-- The last `2 w` entries up to a place are the last `w` there and the last `w` up to `w` places before. -/
theorem lastUpTo_double {n : ℕ} (w : ℕ) (q : Fin n → EReal) (j : Fin n) :
    lastUpTo (w + w) q j = lastUpTo w q j + if h : j.val < w then 0 else lastUpTo w q ⟨j.val - w, by omega⟩ := by
  unfold lastUpTo
  split
  · next h =>
    rw [add_zero]
    congr 1
    ext i
    simp only [Finset.mem_filter, Finset.mem_univ, true_and, Fin.le_def]
    omega
  · next h =>
    rw [← Finset.sum_union]
    · congr 1
      ext i
      simp only [Finset.mem_union, Finset.mem_filter, Finset.mem_univ, true_and, Fin.le_def]
      omega
    · rw [Finset.disjoint_left]
      intro i
      simp only [Finset.mem_filter, Finset.mem_univ, true_and, Fin.le_def]
      omega

/-- The last `w` entries up to a place are all of them once `w` reaches the length. -/
theorem lastUpTo_all {n : ℕ} (q : Fin n → EReal) (j : Fin n) {w : ℕ} (hw : n ≤ w) : lastUpTo w q j = upTo q j := by
  unfold lastUpTo upTo
  congr 1
  ext i
  simp only [Finset.mem_filter, Finset.mem_univ, true_and, Fin.le_def]
  omega

/-- A pass that adds what stands 1 place before. -/
def scan1 (z : EReal) (v : FVec Ideal S8x64 .f32) : FVec Ideal S8x64 .f32 :=
  addf v (concatenate S8x64 1 [⟨S8x1, broadcast S8x1 z⟩, ⟨S8x63, extractStridedSlice S8x63 ![0, 0] v slices_S8x64_o0_0_S8x63⟩]
    concatenates_S8x1_S8x63_S8x64_d1)

/-- The pass by 1, at an entry. -/
theorem scan1_at (z : EReal) (v : FVec Ideal S8x64 .f32) (r : Fin 8) (j : Fin 64) : scan1 z v (ix2 r j) = v (ix2 r j)
    + if h : j.val < 1 then z else v (ix2 r ⟨j.val - 1, by omega⟩) := by
  pointwise [scan1]

/-- A pass that adds what stands 2 places before. -/
def scan2 (z : EReal) (v : FVec Ideal S8x64 .f32) : FVec Ideal S8x64 .f32 :=
  addf v (concatenate S8x64 1 [⟨S8x2, broadcast S8x2 z⟩, ⟨S8x62, extractStridedSlice S8x62 ![0, 0] v slices_S8x64_o0_0_S8x62⟩]
    concatenates_S8x2_S8x62_S8x64_d1)

/-- The pass by 2, at an entry. -/
theorem scan2_at (z : EReal) (v : FVec Ideal S8x64 .f32) (r : Fin 8) (j : Fin 64) : scan2 z v (ix2 r j) = v (ix2 r j)
    + if h : j.val < 2 then z else v (ix2 r ⟨j.val - 2, by omega⟩) := by
  pointwise [scan2]

/-- A pass that adds what stands 4 places before. -/
def scan4 (z : EReal) (v : FVec Ideal S8x64 .f32) : FVec Ideal S8x64 .f32 :=
  addf v (concatenate S8x64 1 [⟨S8x4, broadcast S8x4 z⟩, ⟨S8x60, extractStridedSlice S8x60 ![0, 0] v slices_S8x64_o0_0_S8x60⟩]
    concatenates_S8x4_S8x60_S8x64_d1)

/-- The pass by 4, at an entry. -/
theorem scan4_at (z : EReal) (v : FVec Ideal S8x64 .f32) (r : Fin 8) (j : Fin 64) : scan4 z v (ix2 r j) = v (ix2 r j)
    + if h : j.val < 4 then z else v (ix2 r ⟨j.val - 4, by omega⟩) := by
  pointwise [scan4]

/-- A pass that adds what stands 8 places before. -/
def scan8 (z : EReal) (v : FVec Ideal S8x64 .f32) : FVec Ideal S8x64 .f32 :=
  addf v (concatenate S8x64 1 [⟨S8x8, broadcast S8x8 z⟩, ⟨S8x56, extractStridedSlice S8x56 ![0, 0] v slices_S8x64_o0_0_S8x56⟩]
    concatenates_S8x8_S8x56_S8x64_d1)

/-- The pass by 8, at an entry. -/
theorem scan8_at (z : EReal) (v : FVec Ideal S8x64 .f32) (r : Fin 8) (j : Fin 64) : scan8 z v (ix2 r j) = v (ix2 r j)
    + if h : j.val < 8 then z else v (ix2 r ⟨j.val - 8, by omega⟩) := by
  pointwise [scan8]

/-- A pass that adds what stands 16 places before. -/
def scan16 (z : EReal) (v : FVec Ideal S8x64 .f32) : FVec Ideal S8x64 .f32 :=
  addf v (concatenate S8x64 1 [⟨S8x16, broadcast S8x16 z⟩, ⟨S8x48, extractStridedSlice S8x48 ![0, 0] v slices_S8x64_o0_0_S8x48⟩]
    concatenates_S8x16_S8x48_S8x64_d1)

/-- The pass by 16, at an entry. -/
theorem scan16_at (z : EReal) (v : FVec Ideal S8x64 .f32) (r : Fin 8) (j : Fin 64) : scan16 z v (ix2 r j) = v (ix2 r j)
    + if h : j.val < 16 then z else v (ix2 r ⟨j.val - 16, by omega⟩) := by
  pointwise [scan16]

/-- A pass that adds what stands 32 places before. -/
def scan32 (z : EReal) (v : FVec Ideal S8x64 .f32) : FVec Ideal S8x64 .f32 :=
  addf v (concatenate S8x64 1 [⟨S8x32, broadcast S8x32 z⟩, ⟨S8x32, extractStridedSlice S8x32 ![0, 0] v slices_S8x64_o0_0_S8x32⟩]
    concatenates_S8x32_S8x32_S8x64_d1)

/-- The pass by 32, at an entry. -/
theorem scan32_at (z : EReal) (v : FVec Ideal S8x64 .f32) (r : Fin 8) (j : Fin 64) : scan32 z v (ix2 r j) = v (ix2 r j)
    + if h : j.val < 32 then z else v (ix2 r ⟨j.val - 32, by omega⟩) := by
  pointwise [scan32]

/-- A pass by `w` doubles the window of the sums. -/
theorem scan_step (w : ℕ) (q : Fin 64 → EReal) (z : EReal) (hz : z = 0) (v v' : FVec Ideal S8x64 .f32) (r : Fin 8)
    (hv : ∀ j, v (ix2 r j) = lastUpTo w q j)
    (hv' : ∀ j : Fin 64, v' (ix2 r j) = v (ix2 r j) + if h : j.val < w then z else v (ix2 r ⟨j.val - w, by omega⟩)) (j : Fin 64) :
    v' (ix2 r j) = lastUpTo (w + w) q j := by
  rw [hv', lastUpTo_double, hv, hz]
  congr 1
  split
  · rfl
  · exact hv _

/-- The running sums, as the kernel takes them. -/
def scan (z : EReal) (v : FVec Ideal S8x64 .f32) : FVec Ideal S8x64 .f32 := scan32 z (scan16 z (scan8 z (scan4 z (scan2 z (scan1 z v)))))

/-- After the six passes every place holds the sum up to it. -/
theorem scan_at (z : EReal) (hz : z = 0) (v : FVec Ideal S8x64 .f32) (r : Fin 8) (j : Fin 64) :
    scan z v (ix2 r j) = upTo (fun i => v (ix2 r i)) j := by
  have h1 := scan_step 1 (fun i => v (ix2 r i)) z hz v (scan1 z v) r (fun j => (lastUpTo_one (fun i => v (ix2 r i)) j).symm) (scan1_at z v r)
  have h2 := scan_step 2 (fun i => v (ix2 r i)) z hz _ (scan2 z (scan1 z v)) r h1 (scan2_at z _ r)
  have h4 := scan_step 4 (fun i => v (ix2 r i)) z hz _ (scan4 z (scan2 z (scan1 z v))) r h2 (scan4_at z _ r)
  have h8 := scan_step 8 (fun i => v (ix2 r i)) z hz _ (scan8 z (scan4 z (scan2 z (scan1 z v)))) r h4 (scan8_at z _ r)
  have h16 := scan_step 16 (fun i => v (ix2 r i)) z hz _ (scan16 z (scan8 z (scan4 z (scan2 z (scan1 z v))))) r h8 (scan16_at z _ r)
  have h32 := scan_step 32 (fun i => v (ix2 r i)) z hz _ (scan z v) r h16 (scan32_at z _ r)
  exact (h32 j).trans (lastUpTo_all _ j le_rfl)

/-- The three filters on a row: positions from `tk` on are put to 0; then those before which more than `tp` is already summed; then
    those below `thr`. -/
def keepCount {n : ℕ} (tk : BitVec 32) (q : Fin n → EReal) (j : Fin n) : EReal := if tk.toInt ≤ (j.val : ℤ) then 0 else q j
/-- The entries whose sum without what is kept passes the mass are put to zero. -/
def keepMass {n : ℕ} (tp : EReal) (cs f : Fin n → EReal) (j : Fin n) : EReal := if tp < cs j - f j then 0 else f j
/-- The entries below the threshold are put to zero. -/
def keepLarge {n : ℕ} (thr : EReal) (f : Fin n → EReal) (j : Fin n) : EReal := if f j < thr then 0 else f j

/-- The count filter as the kernel computes it. -/
def maskCount (q : FVec Ideal S8x64 .f32) (tk : Vec Ideal S8x1 .i32) : FVec Ideal S8x64 .f32 :=
  select (cmpi .sge (iota .tc S8x64 32 [1] iota_S8x64_d1_w32) (broadcastTo S8x64 (shapeCast S8x1 tk shapeCasts_S8x1_S8x1) broadcasts_S8x1_S8x64))
    (broadcast S8x64 (Ideal.ofBits .f32 0x00000000#32)) q
/-- The mass filter as the kernel computes it. -/
def maskMass (c f : FVec Ideal S8x64 .f32) (tp : Vec Ideal S8x1 .f32) : FVec Ideal S8x64 .f32 :=
  select (cmpf .ogt (subf c f) (broadcastTo S8x64 (shapeCast S8x1 tp shapeCasts_S8x1_S8x1) broadcasts_S8x1_S8x64))
    (broadcast S8x64 (Ideal.ofBits .f32 0x00000000#32)) f
/-- The threshold filter as the kernel computes it. -/
def maskLarge (f : FVec Ideal S8x64 .f32) (mp : Vec Ideal S8x1 .f32) : FVec Ideal S8x64 .f32 :=
  select (cmpf .olt f (broadcastTo S8x64 (mulf (extractStridedSlice S8x1 ![0, 0] f slices_S8x64_o0_0_S8x1)
    (shapeCast S8x1 mp shapeCasts_S8x1_S8x1)) broadcasts_S8x1_S8x64)) (broadcast S8x64 (Ideal.ofBits .f32 0x00000000#32)) f

/-- The signed comparison of words is that of the numbers they stand for. -/
theorem cmpi_sge_iff (x y : BitVec 32) : IntOp.cmpi .sge x y = 1#1 ↔ y.toInt ≤ x.toInt := by
  unfold IntOp.cmpi
  dsimp only
  rw [BitVec.sle]
  by_cases h : y.toInt ≤ x.toInt <;> simp [h]

/-- A small number's word stands for it. -/
theorem toInt_small {n : ℕ} (j : Fin n) (hn : n ≤ 2 ^ 31 := by norm_num) : (BitVec.ofNat 32 j.val).toInt = j.val := by
  have := j.isLt
  rw [BitVec.toInt_ofNat']
  apply Int.bmod_eq_of_le <;> omega

/-- The kernel's count filter, at an entry. -/
theorem maskCount_at (q : FVec Ideal S8x64 .f32) (tk : Vec Ideal S8x1 .i32) (r : Fin 8) (j : Fin 64) :
    maskCount q tk (ix2 r j) = keepCount (tk (ix2 r 0)) (fun i => q (ix2 r i)) j := by
  pointwise [maskCount]
  refine if_congr ((cmpi_sge_iff _ _).trans ?_) rfl rfl
  rw [toInt_small j]

/-- The kernel's mass filter, at an entry. -/
theorem maskMass_at (c f : FVec Ideal S8x64 .f32) (tp : Vec Ideal S8x1 .f32) (r : Fin 8) (j : Fin 64) :
    maskMass c f tp (ix2 r j) = keepMass (tp (ix2 r 0)) (fun i => c (ix2 r i)) (fun i => f (ix2 r i)) j := by
  pointwise [maskMass]
  rfl

/-- The kernel's threshold filter, at an entry. -/
theorem maskLarge_at (f : FVec Ideal S8x64 .f32) (mp : Vec Ideal S8x1 .f32) (r : Fin 8) (j : Fin 64) :
    maskLarge f mp (ix2 r j) = keepLarge (f (ix2 r 0) * mp (ix2 r 0)) (fun i => f (ix2 r i)) j := by
  pointwise [maskLarge]
  rfl

/-- The kernel's three filters in a row, by name. -/
theorem pay238_eq (q : FVec Ideal S8x64 .f32) (z : EReal) (tk : Vec Ideal S8x1 .i32) (tp mp : Vec Ideal S8x1 .f32) (hz : z = Ideal.ofBits .f32 0x00000000#32) :
    k0_pay238 q z tk tp mp = maskLarge (maskMass (scan (Ideal.ofBits .f32 0x00000000#32) q) (maskCount q tk) tp) mp := by
  subst hz
  rfl

/-- The kernel's token, at a row. -/
theorem pay1_at (si y : IVec S8x64 32) (f : FVec Ideal S8x64 .f32) (g : Vec Ideal S8x64 .f32) (r : Fin 8) : k0_pay1 si y f g (ix2 r 0)
      = Finset.fold IntOp.addi 0#32 (fun x : Fin 64 => if y (ix2 r x) = Finset.fold IntOp.minsi 2147483647#32 (fun a : Fin 64 =>
          if Ideal.log (f (ix2 r a)) + g (ix2 r a) = (most fun a : Fin 64 => Ideal.log (f (ix2 r a)) + g (ix2 r a)) then y (ix2 r a) else 64#32) Finset.univ
        then si (ix2 r x) else 0#32) Finset.univ := by
  pointwise [k0_pay1]
  refine Finset.fold_congr fun x _ => ?_
  unfold most
  generalize Finset.fold IntOp.minsi (2147483647#32) _ (Finset.univ : Finset (Fin 64)) = k
  exact if_congr (cmpi_eq_iff (y (ix2 r x)) k) rfl rfl

/-- The signed minimum of words is that of the numbers they stand for. -/
theorem minsi_toInt (a b : BitVec 32) : (IntOp.minsi a b).toInt = min a.toInt b.toInt := by
  unfold IntOp.minsi
  rw [BitVec.slt]
  split <;> rename_i h <;> simp at h <;> omega

/-- A fold of signed minima is at least every lower bound of its members, and at most each of them. -/
theorem fold_minsi {n : ℕ} (w : Fin n → BitVec 32) (b : ℤ) (S : Finset (Fin n)) (hb : b ≤ 2147483647) (h : ∀ i ∈ S, b ≤ (w i).toInt) :
    b ≤ (Finset.fold IntOp.minsi 2147483647#32 w S).toInt ∧ ∀ i ∈ S, (Finset.fold IntOp.minsi 2147483647#32 w S).toInt ≤ (w i).toInt := by
  induction S using Finset.induction_on with
  | empty => exact ⟨by simpa using hb, by simp⟩
  | insert a S ha ih =>
    have ih := ih fun i hi => h i (Finset.mem_insert_of_mem hi)
    rw [Finset.fold_insert ha, minsi_toInt]
    refine ⟨le_min (h a (Finset.mem_insert_self _ _)) ih.1, fun i hi => ?_⟩
    rcases Finset.mem_insert.mp hi with rfl | hi
    · exact min_le_left _ _
    · exact (min_le_right _ _).trans (ih.2 i hi)

/-- A sum of words of which all but one are zero is that one. -/
theorem fold_addi {n : ℕ} (w : Fin n → BitVec 32) (f : Fin n) (S : Finset (Fin n)) (h : ∀ i, i ≠ f → w i = 0#32) :
    Finset.fold IntOp.addi 0#32 w S = if f ∈ S then w f else 0#32 := by
  induction S using Finset.induction_on with
  | empty => simp
  | insert a S ha ih =>
    rw [Finset.fold_insert ha, ih]
    unfold IntOp.addi
    by_cases hf : a = f
    · subst hf
      rw [if_neg ha, if_pos (Finset.mem_insert_self _ _), BitVec.add_zero]
    · rw [h a hf, BitVec.zero_add]
      exact if_congr (by rw [Finset.mem_insert]; exact ⟨Or.inr, fun h => h.resolve_left fun e => hf e.symm⟩) rfl rfl

/-- The kernel's token is the position carried at the first greatest noisy value. -/
theorem pay1_first (si y : IVec S8x64 32) (f : FVec Ideal S8x64 .f32) (g : Vec Ideal S8x64 .f32) (r : Fin 8)
    (hy : ∀ j : Fin 64, y (ix2 r j) = BitVec.ofNat 32 j.val) (j : Fin 64)
    (hmax : ∀ a : Fin 64, Ideal.log (f (ix2 r a)) + g (ix2 r a) ≤ Ideal.log (f (ix2 r j)) + g (ix2 r j))
    (hfirst : ∀ a : Fin 64, Ideal.log (f (ix2 r a)) + g (ix2 r a) = Ideal.log (f (ix2 r j)) + g (ix2 r j) → j ≤ a) :
    k0_pay1 si y f g (ix2 r 0) = si (ix2 r j) := by
  have hm : (most fun a : Fin 64 => Ideal.log (f (ix2 r a)) + g (ix2 r a)) = Ideal.log (f (ix2 r j)) + g (ix2 r j) := by
    obtain ⟨i, hi⟩ := most_mem (by norm_num) fun a : Fin 64 => Ideal.log (f (ix2 r a)) + g (ix2 r a)
    exact le_antisymm (hi ▸ hmax i) (le_most (fun a : Fin 64 => Ideal.log (f (ix2 r a)) + g (ix2 r a)) j)
  have hmin : Finset.fold IntOp.minsi 2147483647#32 (fun a : Fin 64 =>
      if Ideal.log (f (ix2 r a)) + g (ix2 r a) = Ideal.log (f (ix2 r j)) + g (ix2 r j) then y (ix2 r a) else 64#32) Finset.univ
      = BitVec.ofNat 32 j.val := by
    have h := fold_minsi (fun a : Fin 64 =>
      if Ideal.log (f (ix2 r a)) + g (ix2 r a) = Ideal.log (f (ix2 r j)) + g (ix2 r j) then y (ix2 r a) else 64#32) (j.val : ℤ) Finset.univ
      (by omega) (fun a _ => by
        split
        · next h =>
          rw [hy, toInt_small a]
          exact_mod_cast hfirst a h
        · show (j.val : ℤ) ≤ 64
          omega)
    apply BitVec.eq_of_toInt_eq
    have h2 := h.2 j (Finset.mem_univ j)
    rw [if_pos rfl, hy] at h2
    rw [toInt_small j] at h2 ⊢
    exact le_antisymm h2 h.1
  rw [pay1_at, hm, hmin, fold_addi _ j]
  · rw [if_pos (Finset.mem_univ j), if_pos (hy j)]
  · intro i hi
    refine if_neg fun h => hi ?_
    rw [hy] at h
    have := congrArg BitVec.toInt h
    rw [toInt_small i, toInt_small j] at this
    exact Fin.ext (by exact_mod_cast this)

end Cert.Sampler

end
-- ==== Proof.K.Choice.lean ====
/- The filters on a row of sorted probabilities, on all of it and on its first places; the first greatest entry of a row. -/
module

public import proofs.«01_k».proof.Proof.K.Filter

@[expose] public section

set_option maxRecDepth 16384

noncomputable section

namespace Cert.Sampler

open Idealize.ShloMosaic Idealize.ShloMosaic.SortNet

/-- The entries among the first `tk` before which less than the mass `tp` lies; the others become zero. -/
def massKept {n : ℕ} (tk : BitVec 32) (tp : EReal) (q : Fin n → EReal) : Fin n → EReal := keepMass tp (upTo q) (keepCount tk q)

/-- The last filter too, where it is asked for. -/
def filtered {n : ℕ} (b : BitVec 1) (tk : BitVec 32) (tp mp : EReal) (q : Fin n → EReal) (z j : Fin n) : EReal :=
  if b = 1#1 then keepLarge (massKept tk tp q z * mp) (massKept tk tp q) j else massKept tk tp q j

/-! ## The first places -/

/-- A sum up to a place among the first entries reads no later one. -/
theorem upTo_first {n N : ℕ} (h : n ≤ N) (q : Fin N → EReal) (j : Fin n) : upTo (fun k => q (k.castLE h)) j = upTo q (j.castLE h) := by
  unfold upTo
  refine Finset.sum_bij' (fun k _ => k.castLE h) (fun k _ => if hk : k.val < n then ⟨k.val, hk⟩ else j) ?_ ?_ ?_ ?_ ?_
  · intro k hk
    exact Finset.mem_filter.mpr ⟨Finset.mem_univ _, (Finset.mem_filter.mp hk).2⟩
  · intro k hk
    have hk : k.val ≤ j.val := Fin.le_def.mp (Finset.mem_filter.mp hk).2
    have := j.isLt
    rw [dif_pos (by omega)]
    exact Finset.mem_filter.mpr ⟨Finset.mem_univ _, Fin.le_def.mpr hk⟩
  · intro k _
    exact dif_pos k.isLt
  · intro k hk
    have hk : k.val ≤ j.val := Fin.le_def.mp (Finset.mem_filter.mp hk).2
    have := j.isLt
    simp only [dif_pos (show k.val < n by omega)]
    rfl
  · intro k _
    rfl

/-- The count and mass filters on the first entries read no later one. -/
theorem massKept_first {n N : ℕ} (h : n ≤ N) (tk : BitVec 32) (tp : EReal) (q : Fin N → EReal) (j : Fin n) :
    massKept tk tp (fun k => q (k.castLE h)) j = massKept tk tp q (j.castLE h) := by
  unfold massKept keepMass
  rw [upTo_first h]
  rfl

/-- All the filters on the first entries read no later one. -/
theorem filtered_first {n N : ℕ} (h : n ≤ N) (b : BitVec 1) (tk : BitVec 32) (tp mp : EReal) (q : Fin N → EReal) (z j : Fin n) :
    filtered b tk tp mp (fun k => q (k.castLE h)) z j = filtered b tk tp mp q (z.castLE h) (j.castLE h) := by
  unfold filtered keepLarge
  simp only [massKept_first h]

/-! ## Signs -/

/-- The count and mass filters leave an entry or put zero. -/
theorem massed_cases {n : ℕ} (tk : BitVec 32) (tp : EReal) (cs q : Fin n → EReal) (j : Fin n) :
    keepMass tp cs (keepCount tk q) j = 0 ∨ keepMass tp cs (keepCount tk q) j = q j := by
  unfold keepMass
  by_cases h : tp < cs j - keepCount tk q j
  · exact Or.inl (if_pos h)
  · rw [if_neg h]
    unfold keepCount
    by_cases h' : tk.toInt ≤ (j.val : ℤ)
    · exact Or.inl (if_pos h')
    · exact Or.inr (if_neg h')

/-- Entries that are not negative stay so under the count and mass filters. -/
theorem massKept_nonneg {n : ℕ} (tk : BitVec 32) (tp : EReal) (q : Fin n → EReal) (hq : ∀ j, 0 ≤ q j) (j : Fin n) : 0 ≤ massKept tk tp q j := by
  rcases massed_cases tk tp (upTo q) q j with h | h
  · exact h.ge
  · exact (hq j).trans h.ge

/-- An entry that is not positive stays so under the count and mass filters. -/
theorem massed_nonpos {n : ℕ} (tk : BitVec 32) (tp : EReal) (cs q : Fin n → EReal) (j : Fin n) (hq : q j ≤ 0) :
    keepMass tp cs (keepCount tk q) j ≤ 0 := by
  rcases massed_cases tk tp cs q j with h | h
  · exact h.le
  · exact h.le.trans hq

/-- An entry that is not positive stays so under the threshold filter. -/
theorem large_nonpos {n : ℕ} (t : EReal) (f : Fin n → EReal) (j : Fin n) (hf : f j ≤ 0) : keepLarge t f j ≤ 0 := by
  unfold keepLarge
  split
  · exact le_refl _
  · exact hf

/-- An entry that is not positive stays so under all the filters. -/
theorem filtered_nonpos {n : ℕ} (b : BitVec 1) (tk : BitVec 32) (tp mp : EReal) (q : Fin n → EReal) (z j : Fin n) (hq : q j ≤ 0) :
    filtered b tk tp mp q z j ≤ 0 := by
  unfold filtered
  split
  · exact large_nonpos _ _ _ (massed_nonpos _ _ _ _ _ hq)
  · exact massed_nonpos _ _ _ _ _ hq

/-- Places from the count on hold nothing. -/
theorem filtered_beyond {n : ℕ} (b : BitVec 1) (tk : BitVec 32) (tp mp : EReal) (q : Fin n → EReal) (z j : Fin n) (hj : tk.toInt ≤ j.val) :
    filtered b tk tp mp q z j ≤ 0 := by
  have h : massKept tk tp q j ≤ 0 := by
    unfold massKept keepMass keepCount
    rw [if_pos hj]
    split <;> exact le_refl _
  unfold filtered
  split
  · exact large_nonpos _ _ _ h
  · exact h

/-- Without the last filter a factor of zero asked of it filters nothing. -/
theorem large_factor {n : ℕ} (b : BitVec 1) (tk : BitVec 32) (tp mp : EReal) (q : Fin n → EReal) (z j : Fin n) (hq : ∀ j, 0 ≤ q j) :
    keepLarge (massKept tk tp q z * (if b = 1#1 then mp else 0)) (massKept tk tp q) j = filtered b tk tp mp q z j := by
  unfold filtered
  split
  · rfl
  · unfold keepLarge
    rw [mul_zero, if_neg (not_lt.mpr (massKept_nonneg tk tp q hq j))]

/-- The logarithm of what is not positive is the least value. -/
theorem log_nonpos (x : EReal) (h : x ≤ 0) : Ideal.log x = ⊥ := by
  induction x using EReal.rec with
  | bot => rfl
  | top => exact absurd h (by simp)
  | coe r => exact if_pos (by exact_mod_cast h)

/-! ## The first greatest entry -/

/-- No entry is greater than the one at `f`, and none before it is as great. -/
def FirstGreatest {n : ℕ} (y : Fin n → EReal) (f : Fin n) : Prop := (∀ a, y a ≤ y f) ∧ ∀ a, y a = y f → f ≤ a

/-- A family over a nonempty range has a first greatest member. -/
theorem firstGreatest_exists {n : ℕ} (hn : 0 < n) (y : Fin n → EReal) : ∃ f, FirstGreatest y f := by
  haveI : Nonempty (Fin n) := ⟨⟨0, hn⟩⟩
  obtain ⟨m, hm⟩ := Finite.exists_max y
  have hne : (Finset.univ.filter fun a => y a = y m).Nonempty := ⟨m, Finset.mem_filter.mpr ⟨Finset.mem_univ _, rfl⟩⟩
  have hf : y ((Finset.univ.filter fun a => y a = y m).min' hne) = y m := (Finset.mem_filter.mp (Finset.min'_mem _ hne)).2
  exact ⟨_, fun a => (hm a).trans hf.ge, fun a ha => Finset.min'_le _ a (Finset.mem_filter.mpr ⟨Finset.mem_univ a, ha.trans hf⟩)⟩

/-- Among rows whose later places hold minus infinity, the first places decide. -/
theorem firstGreatest_first {n N : ℕ} (h : n ≤ N) (y : Fin N → EReal) (hy : ∀ j : Fin N, n ≤ j.val → y j = ⊥) (f : Fin n)
    (hf : FirstGreatest (fun k : Fin n => y (k.castLE h)) f) : FirstGreatest y (f.castLE h) := by
  constructor
  · intro a
    by_cases ha : a.val < n
    · exact hf.1 ⟨a.val, ha⟩
    · rw [hy a (by omega)]
      exact bot_le
  · intro a he
    by_cases ha : a.val < n
    · exact hf.2 ⟨a.val, ha⟩ he
    · have := f.isLt
      exact Fin.le_def.mpr (by show f.val ≤ a.val; omega)

/-- Where every entry is minus infinity the first is the first greatest. -/
theorem firstGreatest_none {n : ℕ} (y : Fin n → EReal) (hy : ∀ j, y j = ⊥) (f : Fin n) (hf : FirstGreatest y f) : f.val = 0 := by
  have h := hf.2 ⟨0, by have := f.isLt; omega⟩ ((hy _).trans (hy f).symm)
  exact Nat.le_zero.mp (Fin.le_def.mp h)

end Cert.Sampler

end
-- ==== Proof.K.Token.lean ====
/- The token a block picks in a row: the candidates filtered, their logarithms and the noise added, the first greatest. -/
module

public import proofs.«01_k».proof.Proof.K.Selected
public import proofs.«01_k».proof.Proof.K.Choice

@[expose] public section

set_option maxRecDepth 16384

noncomputable section

namespace Cert.Sampler

open Idealize.ShloMosaic Idealize.ShloMosaic.SortNet Cert.KernelIdeal Cert.KernelIdeal.Gen

/-- The probabilities in the reference's order. -/
def sortedProb (P : Fin 100000 → EReal) (k : Fin 100000) : EReal := P (sortedFrom (before P) k)

/-- What place `j` scores: the logarithm of what the filters leave there, and noise. -/
def score (P : Fin 100000 → EReal) (b : BitVec 1) (tk : BitVec 32) (tp mp : EReal) (j : Fin 100000) : EReal :=
  Ideal.log (filtered b tk tp mp (sortedProb P) 0 j)

/-- Where no probability is left every score is the least value. -/
theorem score_none (P : Fin 100000 → EReal) (hP : ∀ e, P e = ⊥) (b : BitVec 1) (tk : BitVec 32) (tp mp : EReal) (j : Fin 100000) :
    score P b tk tp mp j = ⊥ :=
  log_nonpos _ (filtered_nonpos b tk tp mp (sortedProb P) 0 j ((hP _).le.trans bot_le))

/-- What a row of the block has selected: its first 64 probabilities and their positions, or, where every probability is minus infinity,
    the first position and no positive value. -/
def Picked (P : Fin 100000 → EReal) (q : FVec Ideal S8x64 .f32) (s : IVec S8x64 32) (r : Fin 8) : Prop :=
  ((∀ e, 0 ≤ P e) ∧ ∀ j : Fin 64, q (ix2 r j) = sortedProb P (j.castLE few) ∧ s (ix2 r j) = word (sortedFrom (before P) (j.castLE few)))
  ∨ ((∀ e, P e = ⊥) ∧ s (ix2 r 0) = word (sortedFrom (before P) 0) ∧ ∀ j, q (ix2 r j) ≤ 0)

/-- The kernel's three filters, at an entry. -/
theorem filters_at (q : FVec Ideal S8x64 .f32) (z : EReal) (tk : Vec Ideal S8x1 .i32) (tp mp : Vec Ideal S8x1 .f32)
    (hz : z = Ideal.ofBits .f32 0x00000000#32) (r : Fin 8) (j : Fin 64) : k0_pay238 q z tk tp mp (ix2 r j)
      = keepLarge (massKept (tk (ix2 r 0)) (tp (ix2 r 0)) (fun i => q (ix2 r i)) 0 * mp (ix2 r 0))
          (massKept (tk (ix2 r 0)) (tp (ix2 r 0)) fun i => q (ix2 r i)) j := by
  rw [pay238_eq q z tk tp mp hz, maskLarge_at]
  have h : ∀ i : Fin 64, maskMass (scan (Ideal.ofBits .f32 0x00000000#32) q) (maskCount q tk) tp (ix2 r i)
      = massKept (tk (ix2 r 0)) (tp (ix2 r 0)) (fun i => q (ix2 r i)) i := by
    intro i
    rw [maskMass_at]
    unfold massKept
    congr 1
    · funext k
      exact scan_at _ Ideal.ofBits_zero_f32 q r k
    · funext k
      exact maskCount_at q tk r k
  simp only [h]

/-- The kernel's noisy score of a candidate. -/
theorem score_at (P : Fin 100000 → EReal) (q : FVec Ideal S8x64 .f32) (s : IVec S8x64 32) (r : Fin 8) (hp : Picked P q s r) (z : EReal)
    (tk : Vec Ideal S8x1 .i32) (tp mp : Vec Ideal S8x1 .f32) (hz : z = Ideal.ofBits .f32 0x00000000#32) (b : BitVec 1) (w : EReal)
    (hmp : mp (ix2 r 0) = if b = 1#1 then w else 0) (j : Fin 64) :
    Ideal.log (k0_pay238 q z tk tp mp (ix2 r j)) = score P b (tk (ix2 r 0)) (tp (ix2 r 0)) w (j.castLE few) := by
  rw [filters_at q z tk tp mp hz]
  rcases hp with ⟨hP, hq⟩ | ⟨hP, _, hq⟩
  · have hrow : (fun i : Fin 64 => q (ix2 r i)) = fun i => sortedProb P (i.castLE few) := funext fun i => (hq i).1
    rw [hrow, hmp, large_factor b _ _ w (fun i => sortedProb P (i.castLE few)) 0 j fun i => hP _, filtered_first few]
    rfl
  · exact (log_nonpos _ (large_nonpos _ _ j (massed_nonpos (tk (ix2 r 0)) (tp (ix2 r 0)) (upTo fun i => q (ix2 r i)) (fun i => q (ix2 r i)) j (hq j)))).trans
      (score_none P hP b _ _ w _).symm

/-- The kernel's token of a row. -/
theorem token_at (P : Fin 100000 → EReal) (q : FVec Ideal S8x64 .f32) (s y : IVec S8x64 32) (r : Fin 8) (hp : Picked P q s r)
    (hy : ∀ j : Fin 64, y (ix2 r j) = BitVec.ofNat 32 j.val) (z : EReal) (tk : Vec Ideal S8x1 .i32) (tp mp : Vec Ideal S8x1 .f32)
    (g : Vec Ideal S8x64 .f32) (hz : z = Ideal.ofBits .f32 0x00000000#32) (b : BitVec 1) (w : EReal)
    (hmp : mp (ix2 r 0) = if b = 1#1 then w else 0) (f : Fin 64)
    (hf : FirstGreatest (fun a : Fin 64 => score P b (tk (ix2 r 0)) (tp (ix2 r 0)) w (a.castLE few) + g (ix2 r a)) f) :
    k0_pay1 s y (k0_pay238 q z tk tp mp) g (ix2 r 0) = word (sortedFrom (before P) (f.castLE few)) := by
  have hs := score_at P q s r hp z tk tp mp hz b w hmp
  rw [pay1_first s y _ g r hy f (fun a => by rw [hs, hs]; exact hf.1 a) (fun a h => by rw [hs, hs] at h; exact hf.2 a h)]
  rcases hp with ⟨_, hq⟩ | ⟨hP, h0, _⟩
  · exact (hq f).2
  · have hz : f.val = 0 := firstGreatest_none _ (fun j => by
      rw [score_none P hP, EReal.bot_add]) f hf
    have e : f = 0 := Fin.ext hz
    rw [e]
    exact h0

section
variable (d : Dev nD) (i : grid0.Coords) (arg1 : Memref sig .tc .vmem S8x100000 .f32) (harg1 : arg1.IsWhole)
  (arg2 : Memref sig .tc .vmem S8x8x12500 .f32) (harg2 : arg2.IsWhole) (arg3 : Memref sig .tc .vmem S8x1 .f32) (harg3 : arg3.IsWhole)
  (arg4 : Memref sig .tc .vmem S8x64 .f32) (harg4 : arg4.IsWhole) (arg5 : Memref sig .tc .vmem S8x1 .i32) (harg5 : arg5.IsWhole)
  (arg6 : Memref sig .tc .vmem S8x1 .f32) (harg6 : arg6.IsWhole) (arg7 : Memref sig .tc .vmem S8x1 .f32) (harg7 : arg7.IsWhole)
  (arg8 : Memref sig .tc .vmem S8x100000 .f32) (harg8 : arg8.IsWhole) (arg9 : Memref sig .tc .vmem S8x1 .i32) (harg9 : arg9.IsWhole)
  (arg10 : Memref sig .tc .vmem S8x8x12500 .f32) (harg10 : arg10.IsWhole) (arg11 : Memref sig .tc .vmem S8x8x12500 .i32) (harg11 : arg11.IsWhole)

  (x0 : Vec Ideal S8x100000 EltTy.f32) (x1 : Vec Ideal S8x8x12500 EltTy.f32) (x2 : Vec Ideal S8x1 EltTy.f32)
  (x3 : Vec Ideal S8x64 EltTy.f32) (x4 : Vec Ideal S8x1 EltTy.i32) (x5 x6 : Vec Ideal S8x1 EltTy.f32)

/-- What the loop carries out is the head of the sorted row, or the row has no probabilities. -/
theorem picked (hx : ∀ (r c : Fin 8) (n : Fin 12500), x1 (ix3 r c n) = x0 (ix2 r (elem n c))) (r : Fin 8) :
    Picked (prob (fun i => x0 (ix2 r i)) (x2 (ix2 r 0)))
      (kernelRun0_A.sl.r_61 d i arg1 harg1 arg2 harg2 arg3 harg3 arg4 harg4 arg5 harg5 arg6 harg6 arg7 harg7 arg8 harg8 arg9 harg9 arg10 harg10 arg11 harg11 x0 x1 x2)
      (kernelRun0_A.sl.r_62 d i arg1 harg1 arg2 harg2 arg3 harg3 arg4 harg4 arg5 harg5 arg6 harg6 arg7 harg7 arg8 harg8 arg9 harg9 arg10 harg10 arg11 harg11 x0 x1 x2) r := by
  rcases prob_cases (fun i => x0 (ix2 r i)) (x2 (ix2 r 0)) with hp | hp
  · exact Or.inl ⟨hp, selected d i arg1 harg1 arg2 harg2 arg3 harg3 arg4 harg4 arg5 harg5 arg6 harg6 arg7 harg7 arg8 harg8 arg9 harg9 arg10 harg10 arg11 harg11 x0 x1 x2 hx r hp⟩
  · exact Or.inr ⟨hp, selected_none d i arg1 harg1 arg2 harg2 arg3 harg3 arg4 harg4 arg5 harg5 arg6 harg6 arg7 harg7 arg8 harg8 arg9 harg9 arg10 harg10 arg11 harg11 x0 x1 x2 hx r hp⟩

/-- The loads of the small windows. -/
def columnLoad {e : EltTy} (a : Memref sig .tc .vmem S8x1 e) (ha : a.IsWhole) (x : Vec Ideal S8x1 e) : Vec Ideal S8x1 e :=
  View.readAt (Elt Ideal) a.view (Rect.unit ![0, 0] S8x1.size inb_S8x1_S8x1_0_0).toLoadRect (ha.unread x)
/-- The noise that a step reads. -/
def noiseLoad : Vec Ideal S8x64 .f32 :=
  View.readAt (Elt Ideal) arg4.view (Rect.unit ![0, 0] S8x64.size inb_S8x64_S8x64_0_0).toLoadRect (harg4.unread x3)

/-- A column that a step reads, at a row. -/
theorem columnLoad_at {e : EltTy} (a : Memref sig .tc .vmem S8x1 e) (ha : a.IsWhole) (x : Vec Ideal S8x1 e) (r : Fin 8) :
    columnLoad a ha x (ix2 r 0) = x (ix2 r 0) := by
  unfold columnLoad
  rw [ha.readAt_unread]
  congr 1
  idx_ext

/-- The noise that a step reads, at an entry. -/
theorem noiseLoad_at (r : Fin 8) (j : Fin 64) : noiseLoad arg4 harg4 x3 (ix2 r j) = x3 (ix2 r j) := by
  unfold noiseLoad
  rw [harg4.readAt_unread]
  congr 1
  idx_ext

/-- The one write of the tokens. -/
theorem token_pieces :
    (kernelRun0_A (F := Ideal) d i arg1 harg1 arg2 harg2 arg3 harg3 arg4 harg4 arg5 harg5 arg6 harg6 arg7 harg7 arg8 harg8 arg9 harg9 arg10 harg10 arg11 harg11 x0 x1 x2 x3 x4 x5 x6).2.1
    = [⟨Rect.unit ![0, 0] S8x1.size inb_S8x1_S8x1_0_0, k0_pay1
        (kernelRun0_A.sl.r_62 d i arg1 harg1 arg2 harg2 arg3 harg3 arg4 harg4 arg5 harg5 arg6 harg6 arg7 harg7 arg8 harg8 arg9 harg9 arg10 harg10 arg11 harg11 x0 x1 x2)
        (iota Kind.tc S8x64 32 [1] iota_S8x64_d1_w32)
        (k0_pay238 (kernelRun0_A.sl.r_61 d i arg1 harg1 arg2 harg2 arg3 harg3 arg4 harg4 arg5 harg5 arg6 harg6 arg7 harg7 arg8 harg8 arg9 harg9 arg10 harg10 arg11 harg11 x0 x1 x2)
          (Ideal.ofBits .f32 0x00000000#32) (columnLoad arg5 harg5 x4) (columnLoad arg6 harg6 x5) (columnLoad arg7 harg7 x6))
        (noiseLoad arg4 harg4 x3)⟩] := rfl

/-- The one write of the log-probabilities. -/
theorem logprob_pieces :
    (kernelRun0_A (F := Ideal) d i arg1 harg1 arg2 harg2 arg3 harg3 arg4 harg4 arg5 harg5 arg6 harg6 arg7 harg7 arg8 harg8 arg9 harg9 arg10 harg10 arg11 harg11 x0 x1 x2 x3 x4 x5 x6).1
    = [⟨Rect.unit ![0, 0] S8x100000.size inb_S8x100000_S8x100000_0_0, k0_pay34 (logitsLoad arg1 harg1 x0) (tempLoad arg3 harg3 x2)⟩] := rfl

/-- A store of a whole array, read back. -/
theorem whole_read {a b : ℕ} {e : EltTy} (v : View sig .tc .vmem (⟨2, ![a, b]⟩ : Shape) e) (inb) (w : Vec Ideal (⟨2, ![a, b]⟩ : Shape) e) :
    v.read (Elt Ideal) (v.writes (Elt Ideal) v.junk [⟨Rect.unit ![0, 0] (⟨2, ![a, b]⟩ : Shape).size inb, w⟩]) = w := by
  rw [View.read_writes_junk_eq_canon]
  exact View.canon_unit_zero (funext fun k => by fin_cases k <;> rfl) inb w

/-- The log-probabilities that a step writes. -/
theorem block_logprob (r : Fin 8) (e : Fin 100000) :
    out0_A_7 (F := Ideal) d i arg1 harg1 arg2 harg2 arg3 harg3 arg4 harg4 arg5 harg5 arg6 harg6 arg7 harg7 arg8 harg8 arg9 harg9 arg10 harg10 arg11 harg11 x0 x1 x2 x3 x4 x5 x6 (ix2 r e)
    = max (Ideal.log (prob (fun i => x0 (ix2 r i)) (x2 (ix2 r 0)) e)) (Ideal.ofBits .f32 0xFF7FFFFF#32) := by
  unfold out0_A_7
  rw [logprob_pieces, whole_read, pay34_at, tempLoad_at]
  simp only [logitsLoad_at]

/-- The tokens that a step writes. -/
theorem block_token (hx : ∀ (r c : Fin 8) (n : Fin 12500), x1 (ix3 r c n) = x0 (ix2 r (elem n c))) (r : Fin 8) (b : BitVec 1) (w : EReal)
    (hmp : x6 (ix2 r 0) = if b = 1#1 then w else 0) (f : Fin 64)
    (hf : FirstGreatest (fun a : Fin 64 => score (prob (fun i => x0 (ix2 r i)) (x2 (ix2 r 0))) b (x4 (ix2 r 0)) (x5 (ix2 r 0)) w (a.castLE few) + x3 (ix2 r a)) f) :
    out0_A_8 (F := Ideal) d i arg1 harg1 arg2 harg2 arg3 harg3 arg4 harg4 arg5 harg5 arg6 harg6 arg7 harg7 arg8 harg8 arg9 harg9 arg10 harg10 arg11 harg11 x0 x1 x2 x3 x4 x5 x6 (ix2 r 0)
    = word (sortedFrom (before (prob (fun i => x0 (ix2 r i)) (x2 (ix2 r 0)))) (f.castLE few)) := by
  unfold out0_A_8
  rw [token_pieces, whole_read]
  refine token_at _ _ _ _ r (picked d i arg1 harg1 arg2 harg2 arg3 harg3 arg4 harg4 arg5 harg5 arg6 harg6 arg7 harg7 arg8 harg8 arg9 harg9 arg10 harg10 arg11 harg11 x0 x1 x2 hx r) (fun j => ?_) _ _ _ _ _ rfl b w ?_ f ?_
  · pointwise
  · rw [columnLoad_at, hmp]
  · simp only [columnLoad_at, noiseLoad_at]
    exact hf

end

end Cert.Sampler

end
-- ==== Proof.K.Blocks.lean ====
/- The blocks of the windows, over the arguments. -/
module

public import proofs.«01_k».proof.Proof.K.Token
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Sampler

open Idealize.ShloMosaic Idealize.ShloMosaic.TcCoe Cert.KernelIdeal Cert.KernelIdeal.Gen

variable (m : (ℓ : Loc nD τ sig) → Buf (Elt Ideal) ℓ) (c : Dev nD)

/-- Every window steps down the rows with the grid. -/
theorem steps : ∀ t : Fin cfg0.N, win0_0.index t = ![t.val, 0] ∧ win0_1.index t = ![t.val, 0, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] := by decide +kernel

/-- Row `r` of block `t` is one of the 128 rows. -/
theorem row_lt (t : Fin cfg0.N) (r : Fin 8) : 8 * t.val + r.val < 128 := by
  have := t.isLt
  have : cfg0.N = 16 := rfl
  omega

/-- The row of the arrays at row `r` of block `t`. -/
def row (t : Fin cfg0.N) (r : Fin 8) : Fin 128 := ⟨8 * t.val + r.val, row_lt t r⟩

/-- A block of the logits, over the argument. -/
theorem logits_block (t : Fin cfg0.N) (r : Fin 8) (e : Fin 100000) :
    iblk m c 0 t (ix2 r e) = m ((c : Thread nD τ).loc main_arg0) (ix2 (row t r) e) := by
  blk_ext [iblk, V, steps t, row]

/-- A block of the temperatures, over the argument. -/
theorem temp_block (t : Fin cfg0.N) (r : Fin 8) :
    iblk m c 2 t (ix2 r 0) = m ((c : Thread nD τ).loc main_arg1) (ix2 (row t r) 0) := by
  blk_ext [iblk, V, steps t, row]

/-- The arguments, as arrays. -/
def argLogits : FVec Ideal S128x100000 .f32 := m ((c : Thread nD τ).loc main_arg0)
/-- The temperatures. -/
def argTemps : FVec Ideal S128x1 .f32 := m ((c : Thread nD τ).loc main_arg1)
/-- How many entries each row keeps. -/
def argCounts : IVec S128 32 := m ((c : Thread nD τ).loc main_arg2)
/-- How much mass each row keeps. -/
def argMasses : FVec Ideal S128 .f32 := m ((c : Thread nD τ).loc main_arg3)
/-- Each row's threshold factor. -/
def argLeasts : FVec Ideal S128 .f32 := m ((c : Thread nD τ).loc main_arg4)
/-- Whether the threshold is asked for. -/
def argAsked : IVec S_ 1 := m ((c : Thread nD τ).loc main_arg5)

/-- The sliced logits ahead of the call: slab `k` of column `n` is element `8 n + k`. -/
theorem slabs_entry (i : Fin 128) (k : Fin 8) (n : Fin 12500) : V m c main_call0_v1 (ix3 i k n) = argLogits m c (ix2 i (elem n k)) := by
  entry_read
  show transpose S128x8x12500 [0, 2, 1] (shapeCast S128x12500x8 (argLogits m c) shapeCasts_S128x100000_S128x12500x8)
    transposes_S128x12500x8_S128x8x12500_0_2_1 (ix3 i k n) = _
  generalize argLogits m c = x
  pointwise
  exact congrArg x (congrArg (ix2 i) (Fin.ext (show n.val * 8 + k.val = 8 * n.val + k.val by omega)))

/-- The counts ahead of the call. -/
theorem count_entry (i : Fin 128) : V m c main_call0_v16 (ix2 i 0) = argCounts m c (ix1 i) := by
  entry_read
  pointwise
  rfl

/-- The masses ahead of the call. -/
theorem mass_entry (i : Fin 128) : V m c main_call0_v17 (ix2 i 0) = argMasses m c (ix1 i) := by
  entry_read
  pointwise
  rfl

/-- The threshold factors ahead of the call: zero where no threshold is asked for. -/
theorem least_entry (i : Fin 128) : (V m c main_call0_v19 : FVec Ideal S128x1 .f32) (ix2 i 0) = if argAsked m c ix0 = 1#1 then argLeasts m c (ix1 i) else (0 : EReal) := by
  entry_read
  show shapeCast S128x1 (select (broadcastInDim S128 ![] bcast_S_S128 (argAsked m c)) (argLeasts m c)
    (broadcastInDim S128 ![] bcast_S_S128 (constant (F := Ideal) S_ .f32 0#32))) shapeCasts_S128_S128x1 (ix2 i 0) = _
  generalize argLeasts m c = x
  generalize argAsked m c = b
  pointwise
  rfl

end Cert.Sampler

end
-- ==== Proof.K.Fry.lean ====
/- The random words that the noise is made of. -/
module

public import proofs.«01_k».proof.Proof.K.Prob

@[expose] public section

set_option maxRecDepth 16384

noncomputable section

namespace Cert.Sampler

open Idealize.ShloMosaic

/-- One round: add the second word to the first, then turn the second by `d` bits and mix the sum in. -/
def turn (d : Nat) (p : BitVec 32 × BitVec 32) : BitVec 32 × BitVec 32 :=
  (p.1 + p.2, (p.1 + p.2) ^^^ (p.2 <<< d ||| p.2 >>> (32 - d)))

/-- The two keys of a stage added to the two words. -/
def keyed (a b : BitVec 32) (p : BitVec 32 × BitVec 32) : BitVec 32 × BitVec 32 := (p.1 + a, p.2 + b)

/-- The four rounds of the stages with even number. -/
def evenStage (a b : BitVec 32) (p : BitVec 32 × BitVec 32) : BitVec 32 × BitVec 32 :=
  keyed a b (turn 6 (turn 26 (turn 15 (turn 13 p))))

/-- The four rounds of the stages with odd number. -/
def oddStage (a b : BitVec 32) (p : BitVec 32 × BitVec 32) : BitVec 32 × BitVec 32 :=
  keyed a b (turn 24 (turn 16 (turn 29 (turn 17 p))))

/-- The two words of position `n` after the five stages, the key being 42. -/
def fry (n : BitVec 32) : BitVec 32 × BitVec 32 :=
  evenStage 466689008#32 5#32 (oddStage 42#32 466689012#32 (evenStage 0#32 45#32
    (oddStage 466689008#32 2#32 (evenStage 42#32 466689009#32 (0#32, n + 42#32)))))

/-- The float in [1, 2) made of the random word of position `n`: its leading 23 bits are the fraction. -/
def unitWord (n : BitVec 32) : BitVec 32 := ((fry n).1 ^^^ (fry n).2) >>> 9 ||| 1065353216#32

/-- The word of position (i, j), counted through the 128 rows of 100000. -/
def position {a b : Nat} (i : Fin a) (j : Fin b) : BitVec 32 := BitVec.ofNat 32 i.val * 100000#32 + BitVec.ofNat 32 j.val

/-- The least normal float. -/
def leastNormal : EReal := FloatOps.ofBits (F := Ideal) .f32 0x00800000#32

/-- The number between 0 and 1 of a word: its float less 1, spread over the range from the least normal float to 1. -/
def uniformOf (w : BitVec 32) : EReal :=
  FloatOps.maximumf (F := Ideal) (φ := .f32) leastNormal (FloatOps.addf (F := Ideal) (φ := .f32) (FloatOps.mulf (F := Ideal) (φ := .f32)
    (FloatOps.subf (F := Ideal) (φ := .f32) (FloatOps.ofBits (F := Ideal) .f32 w) (FloatOps.ofBits (F := Ideal) .f32 0x3F800000#32))
    (FloatOps.subf (F := Ideal) (φ := .f32) (FloatOps.ofBits (F := Ideal) .f32 0x3F800000#32) leastNormal)) leastNormal)

/-- The noise of a word, -log(-log u) with u its number between 0 and 1. -/
def gumbelOf (w : BitVec 32) : EReal :=
  FloatOps.hostNegf (F := Ideal) (φ := .f32) (FloatOps.hostUnary (F := Ideal) (φ := .f32) .log (FloatOps.hostNegf (F := Ideal) (φ := .f32)
    (FloatOps.hostUnary (F := Ideal) (φ := .f32) .log (uniformOf w))))

end Cert.Sampler

end
-- ==== Proof.K.Noise.lean ====
/- The noise the kernel's call takes in, over the table of words. -/
module

public import proofs.«01_k».proof.Proof.K.Blocks
public import proofs.«01_k».proof.Proof.K.Fry

@[expose] public section

set_option maxRecDepth 16384

noncomputable section

namespace Cert.Sampler

open Idealize.ShloMosaic Idealize.ShloMosaic.TcCoe Cert.KernelIdeal Cert.KernelIdeal.Gen

variable (m : (ℓ : Loc nD τ sig) → Buf (Elt Ideal) ℓ) (c : Dev nD)

/-- The noise of an array of words, as the operations ahead of the call make it. -/
def noiseOf (y : IVec S128x64 32) : FVec Ideal S128x64 .f32 :=
  Host.negf (Host.log (Host.negf (Host.log (maximumf (broadcastInDim S128x64 ![] bcast_S_S128x64 (constant (F := Ideal) S_ .f32 8388608#32))
    (addf (mulf (subf (bitcastToFloat .f32 y) (broadcastInDim S128x64 ![] bcast_S_S128x64 (constant (F := Ideal) S_ .f32 1065353216#32)))
      (broadcastInDim S128x64 ![] bcast_S_S128x64 (subf (constant (F := Ideal) S_ .f32 1065353216#32) (constant (F := Ideal) S_ .f32 8388608#32))))
      (broadcastInDim S128x64 ![] bcast_S_S128x64 (constant (F := Ideal) S_ .f32 8388608#32)))))))

/-- The noise of an array of words, at an entry. -/
theorem noiseOf_at (y : IVec S128x64 32) (i : Fin 128) (j : Fin 64) : noiseOf y (ix2 i j) = gumbelOf (y (ix2 i j)) := by
  unfold noiseOf
  rfl

/-- The table at a place counted in row order. -/
theorem lit0_at (k : Fin 8192) : lit0 k = lit0t k.val := rfl

/-- The noise ahead of the call: that of the table's word. -/
theorem noise_entry (i : Fin 128) (j : Fin 64) :
    (V m c main_call0_v15 : FVec Ideal S128x64 .f32) (ix2 i j) = gumbelOf (lit0t (64 * i.val + j.val)) := by
  have hk : (S128x64.rowMajor (ix2 i j)).val = 64 * i.val + j.val := by
    rw [Shape.rowMajor_val_two]
    show i.val * 64 + j.val = _
    omega
  entry_read
  show noiseOf (fun k => lit0 (S128x64.rowMajor k)) (ix2 i j) = _
  rw [noiseOf_at]
  exact congrArg gumbelOf ((lit0_at _).trans (congrArg lit0t hk))

end Cert.Sampler

end
-- ==== Proof.K.Table.lean ====
/- The table of random words in the kernel. -/
module

public import proofs.«01_k».proof.Proof.K.Fry
public import proofs.«01_k».proof.KernelIdeal

@[expose] public section

set_option maxRecDepth 16384

namespace Cert.Sampler

open Cert.KernelIdeal

/-- Entry (i, j) of the table, of 128 rows and 64 columns, is the word of position (i, j) of the 128 by 100000 draws. -/
theorem table_words : ∀ (i : Fin 128) (j : Fin 64),
    lit0t (64 * i.val + j.val) = unitWord (position i j) := by
  decide +kernel

end Cert.Sampler
-- ==== Proof.K.Assembly.lean ====
/- The kernel's two results, over its arguments. -/
module

public import proofs.«01_k».proof.Proof.K.Noise
public import proofs.«01_k».proof.Proof.K.Table

@[expose] public section

set_option maxRecDepth 16384

noncomputable section

namespace Cert.Sampler

open Idealize.ShloMosaic Idealize.ShloMosaic.SortNet Idealize.ShloMosaic.TcCoe Cert.KernelIdeal Cert.KernelIdeal.Gen

variable (m : (ℓ : Loc nD τ sig) → Buf (Elt Ideal) ℓ) (c : Dev nD)

/-- A block of the sliced logits, over the whole array. -/
theorem slabs_block (t : Fin cfg0.N) (r k : Fin 8) (n : Fin 12500) :
    iblk m c 1 t (ix3 r k n) = V m c main_call0_v1 (ix3 (row t r) k n) := by
  blk_ext [iblk, steps t, row]

/-- A block of the noise, over the whole array. -/
theorem noise_block (t : Fin cfg0.N) (r : Fin 8) (j : Fin 64) : iblk m c 3 t (ix2 r j) = V m c main_call0_v15 (ix2 (row t r) j) := by
  blk_ext [iblk, steps t, row]

/-- A block of the counts, over the whole column. -/
theorem count_block (t : Fin cfg0.N) (r : Fin 8) : iblk m c 4 t (ix2 r 0) = V m c main_call0_v16 (ix2 (row t r) 0) := by
  blk_ext [iblk, steps t, row]

/-- A block of the masses, over the whole column. -/
theorem mass_block (t : Fin cfg0.N) (r : Fin 8) : iblk m c 5 t (ix2 r 0) = V m c main_call0_v17 (ix2 (row t r) 0) := by
  blk_ext [iblk, steps t, row]

/-- A block of the threshold factors, over the whole column. -/
theorem least_block (t : Fin cfg0.N) (r : Fin 8) : iblk m c 6 t (ix2 r 0) = V m c main_call0_v19 (ix2 (row t r) 0) := by
  blk_ext [iblk, steps t, row]

/-- The probabilities of row `i`. -/
def rowProb (i : Fin 128) : Fin 100000 → EReal := prob (fun e => argLogits m c (ix2 i e)) (argTemps m c (ix2 i 0))

/-- The noisy scores of the 64 candidates of row `i`. -/
def rowScore (i : Fin 128) (a : Fin 64) : EReal :=
  score (rowProb m c i) (argAsked m c ix0) (argCounts m c (ix1 i)) (argMasses m c (ix1 i)) (argLeasts m c (ix1 i)) (a.castLE few)
    + gumbelOf (unitWord (position i a))

/-- The candidate that wins in row `i`. -/
def rowChoice (i : Fin 128) : Fin 64 := Classical.choose (firstGreatest_exists (by decide) (rowScore m c i))

/-- The winner is the first with the greatest score. -/
theorem rowChoice_greatest (i : Fin 128) : FirstGreatest (rowScore m c i) (rowChoice m c i) :=
  Classical.choose_spec (firstGreatest_exists (by decide) (rowScore m c i))

/-- The log-probabilities the kernel leaves. -/
def logprobs : FVec Ideal S128x100000 .f32 := fun i => max (Ideal.log (rowProb m c (i 0) (i 1))) (Ideal.ofBits .f32 0xFF7FFFFF#32)

/-- The tokens the kernel leaves. -/
def tokens : IVec S128x1 32 := fun i => word (sortedFrom (before (rowProb m c (i 0))) ((rowChoice m c (i 0)).castLE few))

/-- The probabilities of a block's row are those of the row it comes from. -/
theorem block_probs (t : Fin cfg0.N) (r : Fin 8) :
    prob (fun e => (iblk m c 0 t : FVec Ideal S8x100000 .f32) (ix2 r e)) ((iblk m c 2 t : FVec Ideal S8x1 .f32) (ix2 r 0)) = rowProb m c (row t r) := by
  rw [temp_block, funext fun e => logits_block m c t r e]
  rfl

/-- The log-probabilities that step `t` leaves in its block. -/
theorem logprobs_block (t : Fin cfg0.N) (r : Fin 8) (e : Fin 100000) : (outsAt0 m c t).1 (ix2 r e) = logprobs m c (ix2 (row t r) e) := by
  unfold outsAt0 logprobs
  dsimp only
  rw [block_logprob, block_probs]
  generalize Ideal.ofBits .f32 0xFF7FFFFF#32 = z
  rfl

/-- The tokens that step `t` leaves in its block. -/
theorem tokens_block (t : Fin cfg0.N) (r : Fin 8) : (outsAt0 m c t).2 (ix2 r 0) = tokens m c (ix2 (row t r) 0) := by
  unfold outsAt0
  refine (block_token _ _ _ _ _ _ _ _ _ _ _ _ _ _ _ _ _ _ _ _ _ _ _ _ _ _ _ _ _ _ _ ?_ r (argAsked m c ix0) (argLeasts m c (ix1 (row t r))) ?_
    (rowChoice m c (row t r)) ?_).trans ?_
  · intro r k n
    rw [slabs_block, slabs_entry, logits_block]
    rfl
  · rw [least_block]
    exact least_entry m c (row t r)
  · have h : (fun a : Fin 64 => score (prob (fun e => (iblk m c 0 t : FVec Ideal S8x100000 .f32) (ix2 r e)) ((iblk m c 2 t : FVec Ideal S8x1 .f32) (ix2 r 0)))
        (argAsked m c ix0) ((iblk m c 4 t : IVec S8x1 32) (ix2 r 0)) ((iblk m c 5 t : FVec Ideal S8x1 .f32) (ix2 r 0)) (argLeasts m c (ix1 (row t r)))
        (a.castLE few) + (iblk m c 3 t : FVec Ideal S8x64 .f32) (ix2 r a)) = rowScore m c (row t r) := by
      funext a
      rw [block_probs, count_block, count_entry, mass_block, mass_entry, noise_block]
      refine congrArg (_ + ·) ((noise_entry m c (row t r) a).trans (congrArg gumbelOf (table_words (row t r) a)))
    exact h ▸ rowChoice_greatest m c (row t r)
  · rw [block_probs]
    rfl

/-- A block of log-probabilities is the whole array's, at the block's place. -/
theorem logprobs_place (t : Fin cfg0.N) (y : S8x100000.Idx) : (outsAt0 m c t).1 y = logprobs m c ((win0_7.blk t).view.emb y) := by
  obtain ⟨r, e, rfl⟩ : ∃ (r : Fin 8) (e : Fin 100000), y = ix2 r e := ⟨y 0, y 1, by idx_ext⟩
  have h : (win0_7.blk t).view.emb (ix2 r e) = ix2 (row t r) e := by blk_ext [steps t, row]
  exact (logprobs_block m c t r e).trans (congrArg (logprobs m c) h.symm)

/-- A block of tokens is the whole array's, at the block's place. -/
theorem tokens_place (t : Fin cfg0.N) (y : S8x1.Idx) : (outsAt0 m c t).2 y = tokens m c ((win0_8.blk t).view.emb y) := by
  obtain ⟨r, rfl⟩ : ∃ r : Fin 8, y = ix2 r 0 := ⟨y 0, by idx_ext⟩
  rw [tokens_block]
  blk_ext [steps t, row]

/-- After all the steps the array of log-probabilities is `logprobs`. -/
theorem logprobs_left : (dats m 0 c).arrAt 7 cfg0.N = logprobs m c := by
  refine (dats m 0 c).arrAt_eq_of_covers 7 _ (by decide +kernel) fun t hf y => ?_
  blk_simp
  rw [after0_7]
  exact logprobs_place m c t y

/-- After all the steps the array of tokens is `tokens`. -/
theorem tokens_left : (dats m 0 c).arrAt 8 cfg0.N = tokens m c := by
  refine (dats m 0 c).arrAt_eq_of_covers 8 _ (by decide +kernel) fun t hf y => ?_
  blk_simp
  rw [after0_8]
  exact tokens_place m c t y

end Cert.Sampler

end
-- ==== Proof.K.RefProb.lean ====
/- The reference's probabilities, its two sorts and its running sum, at an index. -/
module

public import proofs.«01_k».proof.Proof.K.Filter
public import proofs.«01_k».proof.Proof.Gen.ReferenceIdeal.Read

@[expose] public section

set_option maxRecDepth 16384

noncomputable section

namespace Cert.Sampler

open Idealize.ShloMosaic Idealize.ShloMosaic.SortNet Cert.ReferenceIdeal Cert.ReferenceIdeal.Gen Cert.ReferenceIdeal.Read

variable (x0 : (⟨S128x100000, .f32⟩ : BufTy).Contents (Elt Ideal)) (x1 : (⟨S128x1, .f32⟩ : BufTy).Contents (Elt Ideal))

/-- The probabilities of row `i` of the reference's arguments. -/
def refProb (i : Fin 128) : Fin 100000 → EReal := prob (fun e => x0 (ix2 i e)) (x1 (ix2 i 0))

/-- The reference's logits over the temperature. -/
theorem ref_divided (i : Fin 128) (e : Fin 100000) : val_main_v1 (F := Ideal) x0 x1 (ix2 i e) = Ideal.div (x0 (ix2 i e)) (x1 (ix2 i 0)) := by
  rw [val_main_v1_apply, val_main_v0_apply, show idx_main_v0 (ix2 i e) = ix2 i 0 by idx_ext]
  rfl

/-- A row's greatest entry, as the host reduces it. -/
theorem hostMax (y : FVec Ideal S128x100000 .f32) (i : Fin 128) :
    Host.reduce FloatOps.maximumf y (val_main_cst (F := Ideal)) reducesTo_S128x100000_S128_d1 h_S_ (ix1 i) = rowMax fun e => y (ix2 i e) := by
  rw [Host.reduce_eq_fold_single (FloatOps.maximumf (F := Ideal)) y (val_main_cst (F := Ideal)) reducesTo_S128x100000_S128_d1 (by decide) h_S_ (ix1 i)]
  unfold rowMax
  refine congrArg (fun f => Finset.fold max (Ideal.ofBits .f32 0xFF800000#32) f Finset.univ) (funext fun e => ?_)
  exact congrArg y (funext fun a => Fin.ext (by match a with | ⟨0, _⟩ => rfl | ⟨1, _⟩ => rfl))

/-- The reference's greatest entry of a row. -/
theorem ref_greatest (i : Fin 128) : val_main_v4 (F := Ideal) x0 x1 (ix1 i) = rowMax fun e => Ideal.div (x0 (ix2 i e)) (x1 (ix2 i 0)) := by
  rw [val_main_v4_apply, val_main_v3_apply, val_main_cst_0_apply]
  have h2 : val_main_v2 (F := Ideal) x0 x1 (ix1 i) = rowMax fun e => Ideal.div (x0 (ix2 i e)) (x1 (ix2 i 0)) := by
    unfold val_main_v2
    rw [hostMax]
    simp only [ref_divided]
  rw [h2]
  exact (congrArg (max · _) negInf).trans (max_eq_right bot_le)

/-- The reference's exponentials. -/
theorem ref_expo (i : Fin 128) (e : Fin 100000) : val_main_v8 (F := Ideal) x0 x1 (ix2 i e) = expo (fun e => x0 (ix2 i e)) (x1 (ix2 i 0)) e := by
  rw [val_main_v8_apply, val_main_v7_apply, val_main_v6_apply, val_main_v5_apply, ref_divided,
    show idx_main_v5 (idx_main_v6 (ix2 i e)) = ix1 i by idx_ext, ref_greatest]
  rfl

/-- The reference's probabilities. -/
theorem ref_prob (i : Fin 128) (e : Fin 100000) : val_main_v12 (F := Ideal) x0 x1 (ix2 i e) = refProb x0 x1 i e := by
  rw [val_main_v12_apply, val_main_v11_apply, val_main_v10_apply, show idx_main_v10 (idx_main_v11 (ix2 i e)) = ix1 i by idx_ext, val_main_v9_apply,
    val_main_cst_1_apply, ref_expo]
  have hs : ∀ k : Fin 100000, val_main_v8 (F := Ideal) x0 x1 (idx_main_v9 (ix1 i) k) = expo (fun e => x0 (ix2 i e)) (x1 (ix2 i 0)) k := fun k => by
    rw [show idx_main_v9 (ix1 i) k = ix2 i k by idx_ext, ref_expo]
  rw [Finset.sum_congr rfl fun k _ => hs k]
  unfold refProb prob
  refine congrArg (Ideal.div _) ((congrArg (· + _) Ideal.ofBits_zero_f32).trans (zero_add _))

/-- The reference's log-probability. -/
theorem ref_logprob (i : Fin 128) (e : Fin 100000) :
    val_main_v231 (F := Ideal) x0 x1 (ix2 i e) = max (Ideal.log (refProb x0 x1 i e)) (Ideal.ofBits .f32 0xFF7FFFFF#32) := by
  rw [val_main_v231_apply, val_main_call8_v0_apply, val_main_cst_65_apply, val_main_v230_apply, ref_prob]
  generalize refProb x0 x1 i e = p
  show max (Ideal.ofBits .f32 0xFF7FFFFF#32) (Ideal.log p) = _
  rw [max_comm]

/-! ## The sorts -/

/-- Testing the bit of a condition is testing the condition. -/
theorem ofBool_beq (c : Prop) [Decidable c] : (BitVec.ofBool (decide c) == 1#1) = decide c := by
  by_cases h : c <;> simp [h]

/-- What the sort compares is the entry itself. -/
theorem canonical (x : EReal) : Scalar.select (FloatOps.cmpf (F := Ideal) (φ := .f32) .une x x) (FloatOps.ofBits (F := Ideal) .f32 0x7FC00000#32)
    (Scalar.select (FloatOps.cmpf (F := Ideal) (φ := .f32) .oeq x (FloatOps.ofBits (F := Ideal) .f32 0x00000000#32))
      (FloatOps.ofBits (F := Ideal) .f32 0x00000000#32) x) = x := by
  have h1 : FloatOps.cmpf (F := Ideal) (φ := .f32) .une x x = 0#1 := by
    show BitVec.ofBool (decide (x ≠ x)) = 0#1
    simp
  rw [h1]
  show (if BitVec.ofBool (decide (x = Ideal.ofBits .f32 0x00000000#32)) = 1#1 then Ideal.ofBits .f32 0x00000000#32 else x) = x
  by_cases h : x = Ideal.ofBits .f32 0x00000000#32
  · rw [decide_eq_true h]
    exact (if_pos rfl).trans h.symm
  · rw [decide_eq_false h]
    exact if_neg (by decide)

/-- The comparison by which the reference sorts values. -/
theorem less_at (l r : EReal) : (comparator_f32_d1 (F := Ideal) l r == 1#1) = decide (l < r) := by
  unfold comparator_f32_d1
  dsimp only
  rw [canonical, canonical]
  exact ofBool_beq _

/-- The comparison by which the reference sorts positions. -/
theorem less2_at (l r : EReal × BitVec 32) : (comparator_f32_i32_d1 (F := Ideal) l r == 1#1) = decide (l.1 < r.1) := by
  unfold comparator_f32_i32_d1
  dsimp only
  rw [canonical, canonical]
  exact ofBool_beq _

/-- Moving along a row. -/
theorem along_row {a n : ℕ} (i : Fin a) (j k : Fin n) : (ix2 i j : (⟨2, ![a, n]⟩ : Shape).Idx).along (1 : Fin 2) k = ix2 i k := by
  funext c
  match c with
  | ⟨0, _⟩ => rfl
  | ⟨1, _⟩ => rfl

/-- A sort along the rows, at an entry. -/
theorem sort_row {α : Type} {a n : ℕ} (cmp : α → α → BitVec 1) (x : (⟨2, ![a, n]⟩ : Shape).Idx → α) (i : Fin a) (j : Fin n) :
    Host.sort ⟨2, ![a, n]⟩ 1 cmp x (ix2 i j) = x (ix2 i (sortedFrom (fun k k' => cmp (x (ix2 i k)) (x (ix2 i k')) == 1#1) j)) := by
  unfold Host.sort
  rw [dif_pos (show 1 < (⟨2, ![a, n]⟩ : Shape).rank from Nat.one_lt_two)]
  exact (congrArg x (along_row i j _)).trans (congrArg (fun R => x (ix2 i (sortedFrom R j)))
    (funext fun k => funext fun k' => congrArg (fun b => b == 1#1)
      (congrArg₂ cmp (congrArg x (along_row i j k)) (congrArg x (along_row i j k')))))

/-- A sort of pairs along the rows, at an entry of the second array. -/
theorem sort2_row {α β : Type} {a n : ℕ} (cmp : α × β → α × β → BitVec 1) (x : (⟨2, ![a, n]⟩ : Shape).Idx → α)
    (y : (⟨2, ![a, n]⟩ : Shape).Idx → β) (i : Fin a) (j : Fin n) :
    (Host.sort2 ⟨2, ![a, n]⟩ 1 cmp x y).2 (ix2 i j)
      = y (ix2 i (sortedFrom (fun k k' => cmp (x (ix2 i k), y (ix2 i k)) (x (ix2 i k'), y (ix2 i k')) == 1#1) j)) := by
  unfold Host.sort2
  rw [dif_pos (show 1 < (⟨2, ![a, n]⟩ : Shape).rank from Nat.one_lt_two)]
  exact (congrArg y (along_row i j _)).trans (congrArg (fun R => y (ix2 i (sortedFrom R j)))
    (funext fun k => funext fun k' => congrArg (fun b => b == 1#1)
      (congrArg₂ cmp (congrArg (fun q => (x q, y q)) (along_row i j k)) (congrArg (fun q => (x q, y q)) (along_row i j k')))))

/-- A reversal along the rows, at an entry. -/
theorem reverse_row {α : Type} {a n : ℕ} (x : (⟨2, ![a, n]⟩ : Shape).Idx → α) (i : Fin a) (j : Fin n) :
    Host.reverse (s := ⟨2, ![a, n]⟩) [(1 : Fin 2)] x (ix2 i j) = x (ix2 i j.rev) := by
  unfold Host.reverse
  refine congrArg x (funext fun c => ?_)
  match c with
  | ⟨0, _⟩ => rfl
  | ⟨1, _⟩ => rfl

/-- The reference's sorted probabilities, greatest first. -/
theorem ref_sorted (i : Fin 128) (j : Fin 100000) :
    val_main_v14 (F := Ideal) x0 x1 (ix2 i j) = refProb x0 x1 i (sortedFrom (before (refProb x0 x1 i)) j) := by
  unfold val_main_v14 val_main_v13
  refine (reverse_row _ i j).trans ((sort_row _ _ i j.rev).trans ?_)
  rw [ref_prob, sortedFrom_rev (refProb x0 x1 i)]
  intro a b
  rw [less_at, ref_prob, ref_prob]

/-- The positions they come from. -/
theorem ref_places (i : Fin 128) (j : Fin 100000) :
    val_main_v16 (F := Ideal) x0 x1 (ix2 i j) = BitVec.ofNat 32 (sortedFrom (before (refProb x0 x1 i)) j).val := by
  unfold val_main_v16 val_main_v15
  refine (reverse_row _ i j).trans ((sort2_row _ _ _ i j.rev).trans ?_)
  rw [val_main_call1_v0_apply, sortedFrom_rev (refProb x0 x1 i)]
  · rfl
  · intro a b
    rw [less2_at, ref_prob, ref_prob]

/-! ## The running sum -/

/-- Adding terms one after another, from `z` on. -/
theorem foldl_add_sum {m : ℕ} (f : Fin m → EReal) (z : EReal) : (List.finRange m).foldl (fun r n => r + f n) z = z + ∑ n, f n := by
  rw [← List.sum_ofFn, List.ofFn_eq_map]
  generalize List.finRange m = l
  induction l generalizing z with
  | nil => simp
  | cons a l ih => rw [List.foldl_cons, ih, List.map_cons, List.sum_cons, add_assoc]

/-- A window of one row has as many places as the row. -/
theorem window_positions (n : ℕ) : (⟨2, ![1, n]⟩ : Shape).numel = n := by
  show ∏ a : Fin 2, (![1, n] : Fin 2 → ℕ) a = n
  rw [Fin.prod_univ_two]
  exact Nat.one_mul n

/-- The places of a window of one row, in order. -/
theorem window_position {n : ℕ} (w : Fin (⟨2, ![1, n]⟩ : Shape).numel) :
    (⟨2, ![1, n]⟩ : Shape).rowMajor.symm w = ix2 (0 : Fin 1) (w.cast (window_positions n)) :=
  ((⟨2, ![1, n]⟩ : Shape).rowMajor.symm_apply_eq).2 (Fin.ext (by
    rw [Shape.rowMajor_val_two]
    show w.val = 0 * n + w.val
    rw [Nat.zero_mul, Nat.zero_add]))

/-- The sum of a window that ends at `j`, its first part lying before the row. -/
theorem sum_ending {n : ℕ} (l : ℕ) (hl : l + 1 = n) (y : Fin n → EReal) (j : Fin n) :
    (∑ w : Fin n, if h : l ≤ j.val + w.val then y ⟨j.val + w.val - l, by omega⟩ else 0) = upTo y j := by
  unfold upTo
  rw [← Finset.sum_filter_add_sum_filter_not Finset.univ (fun w : Fin n => l ≤ j.val + w.val)]
  rw [Finset.sum_eq_zero (s := Finset.univ.filter fun w : Fin n => ¬ l ≤ j.val + w.val), add_zero]
  · refine Finset.sum_bij' (fun w _ => if h : l ≤ j.val + w.val then ⟨j.val + w.val - l, by omega⟩ else j)
      (fun k _ => if h : k ≤ j then ⟨k.val + l - j.val, by have := Fin.le_def.mp h; omega⟩ else j) ?_ ?_ ?_ ?_ ?_
    · intro w hw
      have hw := (Finset.mem_filter.mp hw).2
      rw [dif_pos hw]
      exact Finset.mem_filter.mpr ⟨Finset.mem_univ _, Fin.le_def.mpr (by show j.val + w.val - l ≤ j.val; omega)⟩
    · intro k hk
      have hk := (Finset.mem_filter.mp hk).2
      rw [dif_pos hk]
      exact Finset.mem_filter.mpr ⟨Finset.mem_univ _, by show l ≤ j.val + (k.val + l - j.val); omega⟩
    · intro w hw
      have hw := (Finset.mem_filter.mp hw).2
      simp only [dif_pos hw]
      rw [dif_pos (Fin.le_def.mpr (by show j.val + w.val - l ≤ j.val; omega))]
      exact Fin.ext (by show j.val + w.val - l + l - j.val = w.val; omega)
    · intro k hk
      have hk := (Finset.mem_filter.mp hk).2
      simp only [dif_pos hk]
      rw [dif_pos (show l ≤ j.val + (k.val + l - j.val) by omega)]
      exact Fin.ext (by show j.val + (k.val + l - j.val) - l = k.val; omega)
    · intro w hw
      have hw := (Finset.mem_filter.mp hw).2
      simp only [dif_pos hw]
  · intro w hw
    exact dif_neg (Finset.mem_filter.mp hw).2

/-- A window of the whole length, padded low by one less, sums a prefix. -/
theorem window_sum {a n : ℕ} (l : ℕ) (hl : l + 1 = n) (x : (⟨2, ![a, n]⟩ : Shape).Idx → EReal) (init : (⟨0, ![]⟩ : Shape).Idx → EReal)
    (hinit : ∀ q, init q = 0) (h : (⟨2, ![a, n]⟩ : Shape).ReduceWindows ![1, n] ![1, 1] ![0, l] ![0, 0] ⟨2, ![a, n]⟩)
    (hu : 0 < (⟨0, ![]⟩ : Shape).numel) (i : Fin a) (j : Fin n) :
    Host.reduceWindow (· + ·) ![1, n] ![1, 1] ![0, l] ![0, 0] x init h hu (ix2 i j) = upTo (fun k => x (ix2 i k)) j := by
  unfold Host.reduceWindow
  refine (foldl_add_sum _ _).trans ?_
  rw [hinit, zero_add, ← sum_ending l hl]
  refine Fintype.sum_equiv (finCongr (window_positions n)) _ _ fun w => ?_
  have hw0 : ((⟨2, ![1, n]⟩ : Shape).rowMajor.symm w 0).val = 0 := by rw [window_position]; rfl
  have hw1 : ((⟨2, ![1, n]⟩ : Shape).rowMajor.symm w 1).val = w.val := by rw [window_position]; rfl
  have hwn : w.val < n := (w.cast (window_positions n)).isLt
  dsimp only
  show _ = dite (l ≤ j.val + w.val) (fun h => x (ix2 i ⟨j.val + w.val - l, by omega⟩)) fun _ => 0
  by_cases hc : l ≤ j.val + w.val
  · rw [dif_pos hc, dif_pos]
    · refine congrArg x (funext fun c => Fin.ext ?_)
      match c with
      | ⟨0, _⟩ =>
        show i.val * 1 + ((⟨2, ![1, n]⟩ : Shape).rowMajor.symm w 0).val - 0 = i.val
        rw [hw0]; omega
      | ⟨1, _⟩ =>
        show j.val * 1 + ((⟨2, ![1, n]⟩ : Shape).rowMajor.symm w 1).val - l = j.val + w.val - l
        rw [hw1]; omega
    · intro c
      match c with
      | ⟨0, _⟩ =>
        show 0 ≤ i.val * 1 + ((⟨2, ![1, n]⟩ : Shape).rowMajor.symm w 0).val ∧ i.val * 1 + ((⟨2, ![1, n]⟩ : Shape).rowMajor.symm w 0).val - 0 < a
        rw [hw0]; omega
      | ⟨1, _⟩ =>
        show l ≤ j.val * 1 + ((⟨2, ![1, n]⟩ : Shape).rowMajor.symm w 1).val ∧ j.val * 1 + ((⟨2, ![1, n]⟩ : Shape).rowMajor.symm w 1).val - l < n
        rw [hw1]; omega
  · rw [dif_neg hc, dif_neg]
    intro hin
    have h1 : l ≤ j.val * 1 + ((⟨2, ![1, n]⟩ : Shape).rowMajor.symm w 1).val := (hin 1).1
    rw [hw1] at h1
    omega

/-- The reference's running sum of the sorted probabilities. -/
theorem ref_running (i : Fin 128) (j : Fin 100000) :
    val_main_v17 (F := Ideal) x0 x1 (ix2 i j) = upTo (fun k => val_main_v14 (F := Ideal) x0 x1 (ix2 i k)) j := by
  unfold val_main_v17
  generalize val_main_v14 (F := Ideal) x0 x1 = y
  have hz : val_main_call2_call0_v0 (F := Ideal) (Shape.Idx.first h_S_) = 0 := by
    rw [val_main_call2_call0_v0_apply, val_main_call2_call0_cst_apply]
    exact Ideal.ofBits_zero_f32
  rw [Host.reduceWindowAdd, Ideal.hostReduceWindowAdd_def, Ideal.hostReduceWindowAdd]
  generalize val_main_call2_call0_v0 (F := Ideal) (Shape.Idx.first h_S_) = z at hz
  exact window_sum (a := 128) (n := 100000) 99999 (by norm_num) y (fun _ => z) (fun _ => hz) _ _ i j

end Cert.Sampler

end
-- ==== Proof.K.RefFilter.lean ====
/- The reference's filters on a row of sorted probabilities, and its choice. -/
module

public import proofs.«01_k».proof.Proof.K.RefProb
public import proofs.«01_k».proof.Proof.K.Choice

@[expose] public section

set_option maxRecDepth 16384

noncomputable section

namespace Cert.Sampler

open Idealize.ShloMosaic Idealize.ShloMosaic.SortNet Cert.ReferenceIdeal Cert.ReferenceIdeal.Gen Cert.ReferenceIdeal.Read

variable (x0 : (⟨S128x100000, .f32⟩ : BufTy).Contents (Elt Ideal)) (x1 : (⟨S128x1, .f32⟩ : BufTy).Contents (Elt Ideal))
  (x2 : (⟨S128, .i32⟩ : BufTy).Contents (Elt Ideal)) (x3 x4 : (⟨S128, .f32⟩ : BufTy).Contents (Elt Ideal))
  (x5 : (⟨S_, .i1⟩ : BufTy).Contents (Elt Ideal))

/-- The word of zero is zero. -/
theorem zero_const : FloatOps.ofBits (F := Ideal) .f32 0x00000000#32 = 0 := Ideal.ofBits_zero_f32

/-- The bit of a condition is set when the condition holds. -/
theorem ofBool_iff (c : Prop) [Decidable c] : BitVec.ofBool (decide c) = 1#1 ↔ c := by
  by_cases h : c <;> simp [h]

/-- A choice by "greater" is a case distinction. -/
theorem select_gt (a b u v : EReal) : Scalar.select (FloatOps.cmpf (F := Ideal) (φ := .f32) .ogt a b) u v = if b < a then u else v :=
  if_congr (ofBool_iff (a > b)) rfl rfl

/-- A choice by "less" is a case distinction. -/
theorem select_lt (a b u v : EReal) : Scalar.select (FloatOps.cmpf (F := Ideal) (φ := .f32) .olt a b) u v = if a < b then u else v :=
  if_congr (ofBool_iff (a < b)) rfl rfl

/-- The reference's count filter. -/
theorem ref_counted (i : Fin 128) (j : Fin 100000) : val_main_v24 (F := Ideal) x0 x1 x2 (ix2 i j)
    = keepCount (x2 (ix1 i)) (fun k => val_main_v14 (F := Ideal) x0 x1 (ix2 i k)) j := by
  rw [val_main_v24_apply, val_main_v23_apply, val_main_v21_apply, val_main_v19_apply, val_main_v18_apply, val_main_v22_apply, val_main_v20_apply,
    val_main_call3_v1_apply, val_main_call3_v0_apply, val_main_cst_2_apply, show idx_main_v20 (idx_main_v22 (ix2 i j)) = ix1 i by idx_ext]
  rw [zero_const]
  unfold keepCount Scalar.select
  refine if_congr ((cmpi_sge_iff _ _).trans ?_) rfl rfl
  have hj : idx_main_v19 (idx_main_v21 (ix2 i j)) = ix1 j := by idx_ext
  rw [hj]
  show _ ≤ (BitVec.ofNat 32 j.val).toInt ↔ _
  rw [toInt_small j]

/-- The reference's count and mass filters. -/
theorem ref_massed (i : Fin 128) (j : Fin 100000) : val_main_v29 (F := Ideal) x0 x1 x2 x3 (ix2 i j)
    = massKept (x2 (ix1 i)) (x3 (ix1 i)) (fun k => val_main_v14 (F := Ideal) x0 x1 (ix2 i k)) j := by
  rw [val_main_v29_apply, val_main_v28_apply, val_main_v25_apply, val_main_v27_apply, val_main_v26_apply, ref_running, ref_counted,
    val_main_call4_v1_apply, val_main_call4_v0_apply, val_main_cst_3_apply, show idx_main_v26 (idx_main_v27 (ix2 i j)) = ix1 i by idx_ext]
  generalize val_main_v14 (F := Ideal) x0 x1 = y
  rw [select_gt, zero_const]
  rfl

/-- The reference's three filters. -/
theorem ref_filtered (i : Fin 128) (j : Fin 100000) : val_main_v37 (F := Ideal) x0 x1 x2 x3 x4 x5 (ix2 i j)
    = filtered (x5 ix0) (x2 (ix1 i)) (x3 (ix1 i)) (x4 (ix1 i)) (fun k => val_main_v14 (F := Ideal) x0 x1 (ix2 i k)) 0 j := by
  have h36 : val_main_v36 (F := Ideal) x0 x1 x2 x3 x4 (ix2 i j)
      = keepLarge (massKept (x2 (ix1 i)) (x3 (ix1 i)) (fun k => val_main_v14 (F := Ideal) x0 x1 (ix2 i k)) 0 * x4 (ix1 i))
        (massKept (x2 (ix1 i)) (x3 (ix1 i)) (fun k => val_main_v14 (F := Ideal) x0 x1 (ix2 i k))) j := by
    rw [val_main_v36_apply, val_main_v35_apply, val_main_v34_apply, val_main_v33_apply, val_main_v32_apply, val_main_v31_apply, val_main_v30_apply,
      ref_massed, val_main_call5_v1_apply, val_main_call5_v0_apply, val_main_cst_4_apply,
      show idx_main_v33 (idx_main_v34 (ix2 i j)) = ix1 i by idx_ext,
      show idx_main_v30 (idx_main_v31 (ix1 i)) = ix2 i 0 by idx_ext, ref_massed]
    generalize val_main_v14 (F := Ideal) x0 x1 = y
    rw [select_lt, zero_const]
    rfl
  unfold val_main_v37 filtered
  rw [← h36, ← ref_massed]
  generalize val_main_v36 (F := Ideal) x0 x1 x2 x3 x4 = u
  generalize val_main_v29 (F := Ideal) x0 x1 x2 x3 = v
  show (if broadcastInDim S128x100000 ![] bcast_S_S128x100000 x5 (ix2 i j) = 1#1 then _ else _) = _
  rw [broadcastInDim_apply _ bcast_S_S128x100000 x5 (ix2 i j) ix0 (fun a => a.elim0)]

/-! ## The choice -/

/-- The comparison by which the reference looks for the greatest. -/
theorem more_at (l r : EReal) : (FloatOps.cmpfTotal (F := Ideal) (φ := .f32) .gt l r == 1#1) = decide (r < l) := ofBool_beq (l > r)

/-- The greatest entry's position, the first if there are several. -/
theorem top_at (y : (⟨2, ![128, 100000]⟩ : Shape).Idx → EReal) (h : (⟨2, ![128, 100000]⟩ : Shape).Slices (fun _ => 0) ⟨2, ![128, 1]⟩)
    (i : Fin 128) (f : Fin 100000) (hmax : ∀ a, y (ix2 i a) ≤ y (ix2 i f)) (hfirst : ∀ a, y (ix2 i a) = y (ix2 i f) → f ≤ a) :
    (Host.topK ⟨2, ![128, 1]⟩ 1 (FloatOps.cmpfTotal (F := Ideal) (φ := .f32) .gt) y h).2 (ix2 i 0) = BitVec.ofNat 32 f.val := by
  unfold Host.topK
  dsimp only
  rw [extractStridedSlice_apply _ _ _ (ix2 i 0) (ix2 i (0 : Fin 100000)) (fun a => by
    match a with
    | ⟨0, _⟩ => show i.val = 0 + i.val; omega
    | ⟨1, _⟩ => rfl)]
  refine (sort2_row _ _ _ i (0 : Fin 100000)).trans ?_
  rw [sortedFrom_greatest (fun a => y (ix2 i a)) _ (fun a b => more_at _ _) 0 rfl f hmax hfirst]
  rfl

/-- The reference's index is that of the first greatest noisy score. -/
theorem ref_index (i : Fin 128) (f : Fin 100000)
    (hmax : ∀ a, val_main_v228 (F := Ideal) x0 x1 x2 x3 x4 x5 (ix2 i a) ≤ val_main_v228 (F := Ideal) x0 x1 x2 x3 x4 x5 (ix2 i f))
    (hfirst : ∀ a, val_main_v228 (F := Ideal) x0 x1 x2 x3 x4 x5 (ix2 i a) = val_main_v228 (F := Ideal) x0 x1 x2 x3 x4 x5 (ix2 i f) → f ≤ a) :
    val_main_indices (F := Ideal) x0 x1 x2 x3 x4 x5 (ix2 i 0) = BitVec.ofNat 32 f.val := by
  unfold val_main_indices
  generalize val_main_v228 (F := Ideal) x0 x1 x2 x3 x4 x5 = y at hmax hfirst
  exact top_at y _ i f hmax hfirst

/-- One entry of each row, at the row's index. -/
theorem gather_at (x : IVec S128x100000 32) (idx : IVec S128x1x1 32) (i : Fin 128) (f : Fin 100000)
    (hf : idx (ix3 i 0 0) = BitVec.ofNat 32 f.val) :
    Host.gather gather_S128x100000_S128x1x1_S128x1_n_1_0_0_1_2_11 x idx (ix2 i 0) = x (ix2 i f) := by
  unfold Host.gather
  refine congrArg x (funext fun a => Fin.ext ?_)
  show gather_S128x100000_S128x1x1_S128x1_n_1_0_0_1_2_11.start (ix2 i 0) idx a
    + gather_S128x100000_S128x1x1_S128x1_n_1_0_0_1_2_11.batchCoord (ix2 i 0) a
    + gather_S128x100000_S128x1x1_S128x1_n_1_0_0_1_2_11.offCoord (ix2 i 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S128x100000_S128x1x1_S128x1_n_1_0_0_1_2_11.operandBatchingDims from List.mem_singleton.mpr rfl),
      Nat.zero_add, Nat.add_zero]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    rw [dif_pos (show (1 : Fin 2) ∈ gather_S128x100000_S128x1x1_S128x1_n_1_0_0_1_2_11.startIndexMap from List.mem_singleton.mpr rfl)]
    have hsi : gather_S128x100000_S128x1x1_S128x1_n_1_0_0_1_2_11.siIdx (ix2 i 0)
        ⟨List.idxOf (1 : Fin 2) gather_S128x100000_S128x1x1_S128x1_n_1_0_0_1_2_11.startIndexMap, List.idxOf_lt_length_iff.2 (List.mem_singleton.mpr rfl)⟩
        = ix3 i 0 0 := by
      funext b
      refine Fin.ext ?_
      match b with
      | ⟨0, _⟩ => rfl
      | ⟨1, _⟩ => rfl
      | ⟨2, _⟩ => rfl
    rw [hsi, hf, toInt_small f]
    have := f.isLt
    show min (f.val : ℤ).toNat (100000 - 1) = f.val
    rw [Int.toNat_natCast]
    omega

/-- A conjunction over one member is that member. -/
theorem fold_one {m : ℕ} (hm : m = 1) (g : Fin m → BitVec 1) (b : BitVec 1) (hb : b = 1#1) (z : Fin m) (hg : g z = 1#1) :
    Finset.fold IntOp.andi b g Finset.univ = 1#1 := by
  subst hm
  rw [Finset.univ_unique, Finset.fold_singleton, Subsingleton.elim default z, hg, hb]
  rfl

/-- Whether every one of a single entry holds. -/
theorem all_of_one (y : IVec S128x1x1 1) (c : IVec S_ 1) (hc : c (Shape.Idx.first h_S_) = 1#1) (i : Fin 128) (hy : y (ix3 i 0 0) = 1#1) :
    Host.reduce IntOp.andi y c reducesTo_S128x1x1_S128x1_d2 h_S_ (ix2 i 0) = 1#1 := by
  refine (Host.reduce_eq_fold_single IntOp.andi y c reducesTo_S128x1x1_S128x1_d2 (by decide) h_S_ (ix2 i 0)).trans (fold_one rfl _ _ hc (0 : Fin 1) ?_)
  refine Eq.trans ?_ hy
  exact congrArg y (funext fun a => Fin.ext (by match a with | ⟨0, _⟩ => rfl | ⟨1, _⟩ => rfl | ⟨2, _⟩ => rfl))

/-- The reference's token: what the sorted positions hold at the chosen place. -/
theorem ref_token (i : Fin 128) (f : Fin 100000) (hf : val_main_indices (F := Ideal) x0 x1 x2 x3 x4 x5 (ix2 i 0) = BitVec.ofNat 32 f.val) :
    val_main_v229 (F := Ideal) x0 x1 x2 x3 x4 x5 (ix2 i 0) = val_main_v16 (F := Ideal) x0 x1 (ix2 i f) := by
  have hfl := f.isLt
  have h4 : val_main_call7_v4 (F := Ideal) x0 x1 x2 x3 x4 x5 (ix2 i 0) = BitVec.ofNat 32 f.val := by
    rw [val_main_call7_v4_apply, val_main_call7_v1_apply, val_main_call7_v0_apply, val_main_call7_c_apply, hf]
    unfold Scalar.select
    rw [if_neg]
    unfold IntOp.cmpi
    dsimp only
    rw [BitVec.slt, toInt_small f]
    intro h
    have h : (f.val : ℤ) < 0 := (ofBool_iff _).mp h
    omega
  have h5 : val_main_call7_v5 (F := Ideal) x0 x1 x2 x3 x4 x5 (ix3 i 0 0) = BitVec.ofNat 32 f.val := by
    rw [val_main_call7_v5_apply, show idx_main_call7_v5 (ix3 i 0 0) = ix2 i 0 by idx_ext, h4]
  have h11 : val_main_call7_v11 (F := Ideal) x0 x1 x2 x3 x4 x5 (ix3 i 0 0) = 1#1 := by
    rw [val_main_call7_v11_apply, val_main_call7_v7_apply, val_main_call7_v10_apply, val_main_call7_v6_apply, val_main_call7_c_2_apply,
      val_main_call7_v9_apply, val_main_call7_v8_apply, val_main_call7_c_1_apply, h5]
    have h0 : IntOp.cmpi .sge (BitVec.ofNat 32 f.val) 0#32 = 1#1 := (cmpi_sge_iff _ _).mpr (by
      rw [toInt_small f]
      show (0 : ℤ) ≤ f.val
      omega)
    have h1 : IntOp.cmpi .sle (BitVec.ofNat 32 f.val) 99999#32 = 1#1 := by
      unfold IntOp.cmpi
      dsimp only
      rw [BitVec.sle, toInt_small f, ofBool_iff]
      show (f.val : ℤ) ≤ 99999
      omega
    rw [h0, h1]
    rfl
  have h12 : val_main_call7_v12 (F := Ideal) x0 x1 x2 x3 x4 x5 (ix2 i 0) = 1#1 := by
    unfold val_main_call7_v12
    generalize val_main_call7_v11 (F := Ideal) x0 x1 x2 x3 x4 x5 = y at h11
    exact all_of_one y _ rfl i h11
  rw [val_main_v229_apply, h12]
  unfold val_main_call7_v13
  rw [gather_at _ _ i f h5]
  rfl

end Cert.Sampler

end
-- ==== Proof.K.RefToken.lean ====
/- The token the reference picks in a row. -/
module

public import proofs.«01_k».proof.Proof.K.RefFilter
public import proofs.«01_k».proof.Proof.K.Token

@[expose] public section

set_option maxRecDepth 16384

noncomputable section

namespace Cert.Sampler

open Idealize.ShloMosaic Idealize.ShloMosaic.SortNet Cert.ReferenceIdeal Cert.ReferenceIdeal.Gen Cert.ReferenceIdeal.Read

variable (x0 : (⟨S128x100000, .f32⟩ : BufTy).Contents (Elt Ideal)) (x1 : (⟨S128x1, .f32⟩ : BufTy).Contents (Elt Ideal))
  (x2 : (⟨S128, .i32⟩ : BufTy).Contents (Elt Ideal)) (x3 x4 : (⟨S128, .f32⟩ : BufTy).Contents (Elt Ideal))
  (x5 : (⟨S_, .i1⟩ : BufTy).Contents (Elt Ideal))

/-- The reference's noise. -/
def refNoise (i : Fin 128) (j : Fin 100000) : EReal := val_main_v226 (F := Ideal) (ix2 i j)

/-- The reference's noisy score. -/
theorem ref_score (i : Fin 128) (j : Fin 100000) : val_main_v228 (F := Ideal) x0 x1 x2 x3 x4 x5 (ix2 i j)
    = score (refProb x0 x1 i) (x5 ix0) (x2 (ix1 i)) (x3 (ix1 i)) (x4 (ix1 i)) j + refNoise i j := by
  have hrow : (fun k => val_main_v14 (F := Ideal) x0 x1 (ix2 i k)) = sortedProb (refProb x0 x1 i) := funext fun k => ref_sorted x0 x1 i k
  rw [val_main_v228_apply, val_main_v227_apply, ref_filtered, hrow]
  unfold score refNoise
  generalize val_main_v226 (F := Ideal) (ix2 i j) = g
  generalize filtered _ _ _ _ _ _ _ = y
  exact add_comm g (Ideal.log y)

/-- Where at most 64 entries are to be kept, the first greatest among the first 64 scores is the choice. -/
theorem ref_chosen (i : Fin 128) (hk : (x2 (ix1 i)).toInt ≤ 64) (f : Fin 64)
    (hf : FirstGreatest (fun a : Fin 64 => score (refProb x0 x1 i) (x5 ix0) (x2 (ix1 i)) (x3 (ix1 i)) (x4 (ix1 i)) (a.castLE few)
      + refNoise i (a.castLE few)) f) :
    val_main_v229 (F := Ideal) x0 x1 x2 x3 x4 x5 (ix2 i 0) = word (sortedFrom (before (refProb x0 x1 i)) (f.castLE few)) := by
  have h := firstGreatest_first few (fun j => score (refProb x0 x1 i) (x5 ix0) (x2 (ix1 i)) (x3 (ix1 i)) (x4 (ix1 i)) j + refNoise i j)
    (fun j hj => by
      unfold score
      rw [log_nonpos _ (filtered_beyond _ _ _ _ _ _ j (by omega)), EReal.bot_add]) f hf
  rw [ref_token x0 x1 x2 x3 x4 x5 i (f.castLE few) (ref_index x0 x1 x2 x3 x4 x5 i _ (fun a => by rw [ref_score, ref_score]; exact h.1 a)
    (fun a he => by rw [ref_score, ref_score] at he; exact h.2 a he)), ref_places]
  rfl

end Cert.Sampler

end
-- ==== Proof.K.RefNoise.lean ====
/- The reference's noise, over the random words. -/
module

public import proofs.«01_k».proof.Proof.K.RefToken
public import proofs.«01_k».proof.Proof.K.Fry

@[expose] public section

set_option maxRecDepth 16384

noncomputable section

namespace Cert.Sampler

open Idealize.ShloMosaic Idealize.ShloMosaic.SortNet Cert.ReferenceIdeal Cert.ReferenceIdeal.Gen Cert.ReferenceIdeal.Read

/-- A left shift by fewer than 32 places. -/
theorem shifted_left (x : BitVec 32) (d : Nat) (hd : d < 32) : IntOp.shli .host x (BitVec.ofNat 32 d) = x <<< d := by
  have h : (BitVec.ofNat 32 d).toNat = d := by rw [BitVec.toNat_ofNat]; omega
  unfold IntOp.shli
  rw [h, if_pos hd, BitVec.shiftLeft_eq', h]

/-- A logical right shift by fewer than 32 places. -/
theorem shifted_right (x : BitVec 32) (d : Nat) (hd : d < 32) : IntOp.shrui .host x (BitVec.ofNat 32 d) = x >>> d := by
  have h : (BitVec.ofNat 32 d).toNat = d := by rw [BitVec.toNat_ofNat]; omega
  unfold IntOp.shrui
  rw [h, if_pos hd, BitVec.ushiftRight_eq', h]

/-- One round as the reference spells it. -/
theorem turned (d : Nat) (a b : BitVec 32) (hd : 0 < d ∧ d < 32) :
    ((IntOp.addi a b, IntOp.xori (IntOp.addi a b) (IntOp.ori (IntOp.shli .host b (BitVec.ofNat 32 d))
      (IntOp.shrui .host b (BitVec.ofNat 32 (32 - d))))) : BitVec 32 × BitVec 32) = turn d (a, b) := by
  rw [shifted_left b d hd.2, shifted_right b (32 - d) (by omega)]
  rfl

/-- One round on the two words. -/
theorem words_v54 (i : S128x100000.Idx) : ((val_main_v48 (F := Ideal) i, val_main_v54 (F := Ideal) i) : BitVec 32 × BitVec 32)
    = turn 13 (val_main_v45 (F := Ideal) i, val_main_v47 (F := Ideal) i) := by
  rw [val_main_v54_apply, val_main_v53_apply, val_main_v50_apply, val_main_v52_apply, val_main_v49_apply, val_main_v51_apply, val_main_c_8_apply, val_main_c_9_apply, val_main_v48_apply]
  exact turned 13 _ _ (by decide)

/-- One round on the two words. -/
theorem words_v61 (i : S128x100000.Idx) : ((val_main_v55 (F := Ideal) i, val_main_v61 (F := Ideal) i) : BitVec 32 × BitVec 32)
    = turn 15 (val_main_v48 (F := Ideal) i, val_main_v54 (F := Ideal) i) := by
  rw [val_main_v61_apply, val_main_v60_apply, val_main_v57_apply, val_main_v59_apply, val_main_v56_apply, val_main_v58_apply, val_main_c_10_apply, val_main_c_11_apply, val_main_v55_apply]
  exact turned 15 _ _ (by decide)

/-- One round on the two words. -/
theorem words_v68 (i : S128x100000.Idx) : ((val_main_v62 (F := Ideal) i, val_main_v68 (F := Ideal) i) : BitVec 32 × BitVec 32)
    = turn 26 (val_main_v55 (F := Ideal) i, val_main_v61 (F := Ideal) i) := by
  rw [val_main_v68_apply, val_main_v67_apply, val_main_v64_apply, val_main_v66_apply, val_main_v63_apply, val_main_v65_apply, val_main_c_12_apply, val_main_c_13_apply, val_main_v62_apply]
  exact turned 26 _ _ (by decide)

/-- One round on the two words. -/
theorem words_v75 (i : S128x100000.Idx) : ((val_main_v69 (F := Ideal) i, val_main_v75 (F := Ideal) i) : BitVec 32 × BitVec 32)
    = turn 6 (val_main_v62 (F := Ideal) i, val_main_v68 (F := Ideal) i) := by
  rw [val_main_v75_apply, val_main_v74_apply, val_main_v71_apply, val_main_v73_apply, val_main_v70_apply, val_main_v72_apply, val_main_c_14_apply, val_main_c_15_apply, val_main_v69_apply]
  exact turned 6 _ _ (by decide)

/-- The key added to the two words. -/
theorem words_v79 (i : S128x100000.Idx) : ((val_main_v77 (F := Ideal) i, val_main_v79 (F := Ideal) i) : BitVec 32 × BitVec 32)
    = keyed 42#32 466689009#32 (val_main_v69 (F := Ideal) i, val_main_v75 (F := Ideal) i) := by
  rw [val_main_v77_apply, val_main_v79_apply, val_main_v76_apply, val_main_v78_apply, val_main_c_16_apply, val_main_c_17_apply]
  rfl

/-- One round on the two words. -/
theorem words_v86 (i : S128x100000.Idx) : ((val_main_v80 (F := Ideal) i, val_main_v86 (F := Ideal) i) : BitVec 32 × BitVec 32)
    = turn 17 (val_main_v77 (F := Ideal) i, val_main_v79 (F := Ideal) i) := by
  rw [val_main_v86_apply, val_main_v85_apply, val_main_v82_apply, val_main_v84_apply, val_main_v81_apply, val_main_v83_apply, val_main_c_18_apply, val_main_c_19_apply, val_main_v80_apply]
  exact turned 17 _ _ (by decide)

/-- One round on the two words. -/
theorem words_v93 (i : S128x100000.Idx) : ((val_main_v87 (F := Ideal) i, val_main_v93 (F := Ideal) i) : BitVec 32 × BitVec 32)
    = turn 29 (val_main_v80 (F := Ideal) i, val_main_v86 (F := Ideal) i) := by
  rw [val_main_v93_apply, val_main_v92_apply, val_main_v89_apply, val_main_v91_apply, val_main_v88_apply, val_main_v90_apply, val_main_c_20_apply, val_main_c_21_apply, val_main_v87_apply]
  exact turned 29 _ _ (by decide)

/-- One round on the two words. -/
theorem words_v100 (i : S128x100000.Idx) : ((val_main_v94 (F := Ideal) i, val_main_v100 (F := Ideal) i) : BitVec 32 × BitVec 32)
    = turn 16 (val_main_v87 (F := Ideal) i, val_main_v93 (F := Ideal) i) := by
  rw [val_main_v100_apply, val_main_v99_apply, val_main_v96_apply, val_main_v98_apply, val_main_v95_apply, val_main_v97_apply, val_main_c_22_apply, val_main_c_23_apply, val_main_v94_apply]
  exact turned 16 _ _ (by decide)

/-- One round on the two words. -/
theorem words_v107 (i : S128x100000.Idx) : ((val_main_v101 (F := Ideal) i, val_main_v107 (F := Ideal) i) : BitVec 32 × BitVec 32)
    = turn 24 (val_main_v94 (F := Ideal) i, val_main_v100 (F := Ideal) i) := by
  rw [val_main_v107_apply, val_main_v106_apply, val_main_v103_apply, val_main_v105_apply, val_main_v102_apply, val_main_v104_apply, val_main_c_24_apply, val_main_c_25_apply, val_main_v101_apply]
  exact turned 24 _ _ (by decide)

/-- The key added to the two words. -/
theorem words_v111 (i : S128x100000.Idx) : ((val_main_v109 (F := Ideal) i, val_main_v111 (F := Ideal) i) : BitVec 32 × BitVec 32)
    = keyed 466689008#32 2#32 (val_main_v101 (F := Ideal) i, val_main_v107 (F := Ideal) i) := by
  rw [val_main_v109_apply, val_main_v111_apply, val_main_v108_apply, val_main_v110_apply, val_main_c_26_apply, val_main_c_27_apply]
  rfl

/-- One round on the two words. -/
theorem words_v118 (i : S128x100000.Idx) : ((val_main_v112 (F := Ideal) i, val_main_v118 (F := Ideal) i) : BitVec 32 × BitVec 32)
    = turn 13 (val_main_v109 (F := Ideal) i, val_main_v111 (F := Ideal) i) := by
  rw [val_main_v118_apply, val_main_v117_apply, val_main_v114_apply, val_main_v116_apply, val_main_v113_apply, val_main_v115_apply, val_main_c_28_apply, val_main_c_29_apply, val_main_v112_apply]
  exact turned 13 _ _ (by decide)

/-- One round on the two words. -/
theorem words_v125 (i : S128x100000.Idx) : ((val_main_v119 (F := Ideal) i, val_main_v125 (F := Ideal) i) : BitVec 32 × BitVec 32)
    = turn 15 (val_main_v112 (F := Ideal) i, val_main_v118 (F := Ideal) i) := by
  rw [val_main_v125_apply, val_main_v124_apply, val_main_v121_apply, val_main_v123_apply, val_main_v120_apply, val_main_v122_apply, val_main_c_30_apply, val_main_c_31_apply, val_main_v119_apply]
  exact turned 15 _ _ (by decide)

/-- One round on the two words. -/
theorem words_v132 (i : S128x100000.Idx) : ((val_main_v126 (F := Ideal) i, val_main_v132 (F := Ideal) i) : BitVec 32 × BitVec 32)
    = turn 26 (val_main_v119 (F := Ideal) i, val_main_v125 (F := Ideal) i) := by
  rw [val_main_v132_apply, val_main_v131_apply, val_main_v128_apply, val_main_v130_apply, val_main_v127_apply, val_main_v129_apply, val_main_c_32_apply, val_main_c_33_apply, val_main_v126_apply]
  exact turned 26 _ _ (by decide)

/-- One round on the two words. -/
theorem words_v139 (i : S128x100000.Idx) : ((val_main_v133 (F := Ideal) i, val_main_v139 (F := Ideal) i) : BitVec 32 × BitVec 32)
    = turn 6 (val_main_v126 (F := Ideal) i, val_main_v132 (F := Ideal) i) := by
  rw [val_main_v139_apply, val_main_v138_apply, val_main_v135_apply, val_main_v137_apply, val_main_v134_apply, val_main_v136_apply, val_main_c_34_apply, val_main_c_35_apply, val_main_v133_apply]
  exact turned 6 _ _ (by decide)

/-- The key added to the two words. -/
theorem words_v143 (i : S128x100000.Idx) : ((val_main_v141 (F := Ideal) i, val_main_v143 (F := Ideal) i) : BitVec 32 × BitVec 32)
    = keyed 0#32 45#32 (val_main_v133 (F := Ideal) i, val_main_v139 (F := Ideal) i) := by
  rw [val_main_v141_apply, val_main_v143_apply, val_main_v140_apply, val_main_v142_apply, val_main_c_36_apply, val_main_c_37_apply]
  rfl

/-- One round on the two words. -/
theorem words_v150 (i : S128x100000.Idx) : ((val_main_v144 (F := Ideal) i, val_main_v150 (F := Ideal) i) : BitVec 32 × BitVec 32)
    = turn 17 (val_main_v141 (F := Ideal) i, val_main_v143 (F := Ideal) i) := by
  rw [val_main_v150_apply, val_main_v149_apply, val_main_v146_apply, val_main_v148_apply, val_main_v145_apply, val_main_v147_apply, val_main_c_38_apply, val_main_c_39_apply, val_main_v144_apply]
  exact turned 17 _ _ (by decide)

/-- One round on the two words. -/
theorem words_v157 (i : S128x100000.Idx) : ((val_main_v151 (F := Ideal) i, val_main_v157 (F := Ideal) i) : BitVec 32 × BitVec 32)
    = turn 29 (val_main_v144 (F := Ideal) i, val_main_v150 (F := Ideal) i) := by
  rw [val_main_v157_apply, val_main_v156_apply, val_main_v153_apply, val_main_v155_apply, val_main_v152_apply, val_main_v154_apply, val_main_c_40_apply, val_main_c_41_apply, val_main_v151_apply]
  exact turned 29 _ _ (by decide)

/-- One round on the two words. -/
theorem words_v164 (i : S128x100000.Idx) : ((val_main_v158 (F := Ideal) i, val_main_v164 (F := Ideal) i) : BitVec 32 × BitVec 32)
    = turn 16 (val_main_v151 (F := Ideal) i, val_main_v157 (F := Ideal) i) := by
  rw [val_main_v164_apply, val_main_v163_apply, val_main_v160_apply, val_main_v162_apply, val_main_v159_apply, val_main_v161_apply, val_main_c_42_apply, val_main_c_43_apply, val_main_v158_apply]
  exact turned 16 _ _ (by decide)

/-- One round on the two words. -/
theorem words_v171 (i : S128x100000.Idx) : ((val_main_v165 (F := Ideal) i, val_main_v171 (F := Ideal) i) : BitVec 32 × BitVec 32)
    = turn 24 (val_main_v158 (F := Ideal) i, val_main_v164 (F := Ideal) i) := by
  rw [val_main_v171_apply, val_main_v170_apply, val_main_v167_apply, val_main_v169_apply, val_main_v166_apply, val_main_v168_apply, val_main_c_44_apply, val_main_c_45_apply, val_main_v165_apply]
  exact turned 24 _ _ (by decide)

/-- The key added to the two words. -/
theorem words_v175 (i : S128x100000.Idx) : ((val_main_v173 (F := Ideal) i, val_main_v175 (F := Ideal) i) : BitVec 32 × BitVec 32)
    = keyed 42#32 466689012#32 (val_main_v165 (F := Ideal) i, val_main_v171 (F := Ideal) i) := by
  rw [val_main_v173_apply, val_main_v175_apply, val_main_v172_apply, val_main_v174_apply, val_main_c_46_apply, val_main_c_47_apply]
  rfl

/-- One round on the two words. -/
theorem words_v182 (i : S128x100000.Idx) : ((val_main_v176 (F := Ideal) i, val_main_v182 (F := Ideal) i) : BitVec 32 × BitVec 32)
    = turn 13 (val_main_v173 (F := Ideal) i, val_main_v175 (F := Ideal) i) := by
  rw [val_main_v182_apply, val_main_v181_apply, val_main_v178_apply, val_main_v180_apply, val_main_v177_apply, val_main_v179_apply, val_main_c_48_apply, val_main_c_49_apply, val_main_v176_apply]
  exact turned 13 _ _ (by decide)

/-- One round on the two words. -/
theorem words_v189 (i : S128x100000.Idx) : ((val_main_v183 (F := Ideal) i, val_main_v189 (F := Ideal) i) : BitVec 32 × BitVec 32)
    = turn 15 (val_main_v176 (F := Ideal) i, val_main_v182 (F := Ideal) i) := by
  rw [val_main_v189_apply, val_main_v188_apply, val_main_v185_apply, val_main_v187_apply, val_main_v184_apply, val_main_v186_apply, val_main_c_50_apply, val_main_c_51_apply, val_main_v183_apply]
  exact turned 15 _ _ (by decide)

/-- One round on the two words. -/
theorem words_v196 (i : S128x100000.Idx) : ((val_main_v190 (F := Ideal) i, val_main_v196 (F := Ideal) i) : BitVec 32 × BitVec 32)
    = turn 26 (val_main_v183 (F := Ideal) i, val_main_v189 (F := Ideal) i) := by
  rw [val_main_v196_apply, val_main_v195_apply, val_main_v192_apply, val_main_v194_apply, val_main_v191_apply, val_main_v193_apply, val_main_c_52_apply, val_main_c_53_apply, val_main_v190_apply]
  exact turned 26 _ _ (by decide)

/-- One round on the two words. -/
theorem words_v203 (i : S128x100000.Idx) : ((val_main_v197 (F := Ideal) i, val_main_v203 (F := Ideal) i) : BitVec 32 × BitVec 32)
    = turn 6 (val_main_v190 (F := Ideal) i, val_main_v196 (F := Ideal) i) := by
  rw [val_main_v203_apply, val_main_v202_apply, val_main_v199_apply, val_main_v201_apply, val_main_v198_apply, val_main_v200_apply, val_main_c_54_apply, val_main_c_55_apply, val_main_v197_apply]
  exact turned 6 _ _ (by decide)

/-- The key added to the two words. -/
theorem words_v207 (i : S128x100000.Idx) : ((val_main_v205 (F := Ideal) i, val_main_v207 (F := Ideal) i) : BitVec 32 × BitVec 32)
    = keyed 466689008#32 5#32 (val_main_v197 (F := Ideal) i, val_main_v203 (F := Ideal) i) := by
  rw [val_main_v205_apply, val_main_v207_apply, val_main_v204_apply, val_main_v206_apply, val_main_c_56_apply, val_main_c_57_apply]
  rfl

/-- The two words ahead of the rounds: zero, and the position plus the key. -/
theorem words_v47 (i : Fin 128) (j : Fin 100000) :
    ((val_main_v45 (F := Ideal) (ix2 i j), val_main_v47 (F := Ideal) (ix2 i j)) : BitVec 32 × BitVec 32) = (0#32, position i j + 42#32) := by
  rw [val_main_v45_apply, val_main_v43_apply, val_main_v44_apply, val_main_c_5_apply, val_main_c_6_apply, val_main_v47_apply, val_main_v46_apply,
    val_main_c_7_apply, val_main_v42_apply, val_main_v40_apply, val_main_v38_apply, val_main_v39_apply, val_main_c_apply, val_main_v41_apply]
  rfl

/-- The two words after all the rounds. -/
theorem words_last (i : Fin 128) (j : Fin 100000) :
    ((val_main_v205 (F := Ideal) (ix2 i j), val_main_v207 (F := Ideal) (ix2 i j)) : BitVec 32 × BitVec 32) = fry (position i j) := by
  rw [words_v207, words_v203, words_v196, words_v189, words_v182, words_v175, words_v171, words_v164, words_v157, words_v150, words_v143, words_v139, words_v132, words_v125, words_v118, words_v111, words_v107, words_v100, words_v93, words_v86, words_v79, words_v75, words_v68, words_v61, words_v54, words_v47]
  rfl

/-- The reference's random words. -/
theorem ref_word (i : Fin 128) (j : Fin 100000) : val_main_v212 (F := Ideal) (ix2 i j) = unitWord (position i j) := by
  have h := words_last i j
  have h1 := congrArg Prod.fst h
  have h2 := congrArg Prod.snd h
  dsimp only at h1 h2
  rw [val_main_v212_apply, val_main_v210_apply, val_main_v211_apply, val_main_v209_apply, val_main_c_58_apply, val_main_c_59_apply,
    val_main_v208_apply, h1, h2, shifted_right _ 9 (by decide)]
  rfl

/-- The reference's noise is the noise of the word of its position. -/
theorem ref_noise (i : Fin 128) (j : Fin 100000) : refNoise i j = gumbelOf (unitWord (position i j)) := by
  unfold refNoise
  rw [val_main_v226_apply, val_main_v225_apply, val_main_v224_apply, val_main_v223_apply, val_main_v222_apply, val_main_v221_apply,
    val_main_v220_apply, val_main_v219_apply, val_main_v218_apply, val_main_v217_apply, val_main_v216_apply, val_main_v215_apply,
    val_main_v214_apply, val_main_v213_apply, val_main_cst_60_apply, val_main_cst_61_apply, val_main_cst_62_apply, val_main_cst_63_apply,
    val_main_cst_64_apply, ref_word]
  rfl

end Cert.Sampler

end
-- ==== Proof.K.Agree.lean ====
/- The reference's two results are the kernel's, from equal arguments. -/
module

public import proofs.«01_k».proof.Proof.K.Assembly
public import proofs.«01_k».proof.Proof.K.RefNoise
public import proofs.«01_k».proof.Defs

@[expose] public section

set_option maxRecDepth 16384

noncomputable section

namespace Cert.Sampler

open Idealize.ShloMosaic Idealize.ShloMosaic.SortNet Idealize.ShloMosaic.TcCoe Cert.KernelIdeal Cert.ReferenceIdeal.Read

variable (m : (ℓ : Loc nD τ sig) → Buf (Elt Ideal) ℓ) (c : Dev nD)

/-- The two sides' probabilities of a row are one function of its arguments. -/
theorem same_probs (i : Fin 128) : refProb (argLogits m c) (argTemps m c) i = rowProb m c i := rfl

/-- The log-probabilities agree. -/
theorem logprobs_agree : val_main_v231 (F := Ideal) (argLogits m c) (argTemps m c) = logprobs m c := by
  funext j
  obtain ⟨i, e, rfl⟩ : ∃ (i : Fin 128) (e : Fin 100000), j = ix2 i e := ⟨j 0, j 1, by idx_ext⟩
  rw [ref_logprob, same_probs]
  unfold logprobs
  generalize Ideal.ofBits .f32 0xFF7FFFFF#32 = z
  rfl

/-- Counting a column among 64 or among 100000 gives the same word. -/
theorem same_position (i : Fin 128) (a : Fin 64) : position i (a.castLE few) = position i a := rfl

/-- The tokens agree where no row asks for more than 64 entries. -/
theorem tokens_agree (hk : ∀ i : Fin 128, (argCounts m c (ix1 i)).toInt ≤ 64) :
    val_main_v229 (F := Ideal) (argLogits m c) (argTemps m c) (argCounts m c) (argMasses m c) (argLeasts m c) (argAsked m c) = tokens m c := by
  funext j
  obtain ⟨i, rfl⟩ : ∃ i : Fin 128, j = ix2 i 0 := ⟨j 0, by idx_ext⟩
  refine (ref_chosen _ _ _ _ _ _ i (hk i) (rowChoice m c i) ?_).trans ?_
  · have h : (fun a : Fin 64 => score (refProb (argLogits m c) (argTemps m c) i) (argAsked m c ix0) (argCounts m c (ix1 i)) (argMasses m c (ix1 i))
        (argLeasts m c (ix1 i)) (a.castLE few) + refNoise i (a.castLE few)) = rowScore m c i := by
      funext a
      rw [ref_noise, same_position, same_probs]
      rfl
    exact h ▸ rowChoice_greatest m c i
  · rw [same_probs]
    rfl

end Cert.Sampler

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.K.Agree
public import Idealize.ShloMosaic.Adequacy
public import Idealize.ShloMosaic.Init

@[expose] public section

noncomputable section

namespace Cert.Proof

open Idealize.ShloMosaic Idealize.SL.Sem

/-- The reference terminates without a fault and leaves its arguments as they were; it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The one side condition that the precondition states: a scalar spreads over the rows. -/
theorem spread : Cert.Pre_top_ks_at_most_64.Facts := ⟨by decide⟩

section

open Cert.ReferenceIdeal Cert.ReferenceIdeal.Read

/-- Equal arguments give the reference equal tokens. -/
theorem token_congr {x0 y0 : (⟨S128x100000, .f32⟩ : BufTy).Contents (Elt Ideal)} {x1 y1 : (⟨S128x1, .f32⟩ : BufTy).Contents (Elt Ideal)}
    {x2 y2 : (⟨S128, .i32⟩ : BufTy).Contents (Elt Ideal)} {x3 y3 x4 y4 : (⟨S128, .f32⟩ : BufTy).Contents (Elt Ideal)}
    {x5 y5 : (⟨S_, .i1⟩ : BufTy).Contents (Elt Ideal)} (h0 : x0 = y0) (h1 : x1 = y1) (h2 : x2 = y2) (h3 : x3 = y3) (h4 : x4 = y4) (h5 : x5 = y5) :
    val_main_v229 (F := Ideal) x0 x1 x2 x3 x4 x5 = val_main_v229 (F := Ideal) y0 y1 y2 y3 y4 y5 := by
  subst h0 h1 h2 h3 h4 h5
  rfl

/-- Equal arguments give the reference equal log-probabilities. -/
theorem logprob_congr {x0 y0 : (⟨S128x100000, .f32⟩ : BufTy).Contents (Elt Ideal)} {x1 y1 : (⟨S128x1, .f32⟩ : BufTy).Contents (Elt Ideal)}
    (h0 : x0 = y0) (h1 : x1 = y1) : val_main_v231 (F := Ideal) x0 x1 = val_main_v231 (F := Ideal) y0 y1 := by
  subst h0 h1
  rfl

/-- What the reference leaves, over its arguments. -/
theorem reference_leaves (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v229) = val_main_v229 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v231) = val_main_v231 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v229_eq _), (h c).2.1.trans (val_main_v231_eq _), (h c).2.2⟩)
    (Cert.ReferenceIdeal.Value.run (F := Ideal) m ρ)

end

/-- Under the precondition no row asks for more than 64 entries. -/
theorem counts_small (m : (ℓ : Loc Cert.KernelIdeal.nD Cert.KernelIdeal.τ Cert.KernelIdeal.sig) → Buf (Elt Ideal) ℓ)
    (h : Cert.Pre_KernelIdeal_top_ks_at_most_64 (hPre_top_ks_at_most_64 := spread) m) (c : Dev Cert.KernelIdeal.nD) (i : Fin 128) :
    (Cert.Sampler.argCounts m c (ix1 i)).toInt ≤ 64 := by
  have h1 := congrFun (h c) (ix1 i)
  have h2 : IntOp.cmpi .sle (Cert.Sampler.argCounts m c (ix1 i)) 64#32 = 1#1 := h1
  generalize Cert.Sampler.argCounts m c (ix1 i) = k at h2
  have h3 : k.sle 64#32 = true := by
    by_contra hn
    rw [Bool.not_eq_true] at hn
    unfold IntOp.cmpi at h2
    simp [hn] at h2
  exact BitVec.sle_iff_toInt_le.mp h3

/-- Over the extended reals the kernel and the reference leave the same tokens and the same log-probabilities, where no row asks for
    more than 64 entries. -/
theorem equal_results : Cert.algebraic_KernelIdeal_ReferenceIdeal_pre_top_ks_at_most_64 (hKernelIdeal := Cert.KernelIdeal.Gen.facts)
    (hReferenceIdeal := Cert.ReferenceIdeal.Gen.facts) (hPre_top_ks_at_most_64 := spread) := by
  intro m ρ m' ρ' hpre hag
  refine ⟨fun c => Cert.Sampler.tokens m c, fun c => Cert.Sampler.logprobs m c, ?_, ?_⟩
  · exact (θ_run _ _ _).mono (fun r h c => ⟨(h c).2.1.trans (Cert.Sampler.tokens_left m c), (h c).1.trans (Cert.Sampler.logprobs_left m c), (h c).2.2⟩)
      (Cert.KernelIdeal.Value.run_blocks m ρ)
  · refine (θ_run _ _ _).mono (fun r h c => ⟨(h c).1.trans ?_, (h c).2.1.trans ?_, (h c).2.2⟩) (reference_leaves m' ρ')
    · obtain ⟨h0, h1, h2, h3, h4, h5⟩ := hag c
      exact (token_congr h0 h1 h2 h3 h4 h5).trans (Cert.Sampler.tokens_agree m c (counts_small m hpre c))
    · obtain ⟨h0, h1, -⟩ := hag c
      exact (logprob_congr h0 h1).trans (Cert.Sampler.logprobs_agree m c)

/-- The claims of this certificate: the three frames, that idealizing dropped nothing, and that both results agree. -/
theorem claim : Cert.Claim :=
  ⟨Cert.Kernel.Gen.facts, Cert.KernelIdeal.Gen.facts, Cert.ReferenceIdeal.Gen.facts, spread,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, equal_results⟩

end Cert.Proof

end
